-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x256 : Shape := ⟨2, ![16384, 256]⟩
abbrev S8192x256 : Shape := ⟨2, ![8192, 256]⟩
abbrev S16384x8192 : Shape := ⟨2, ![16384, 8192]⟩
abbrev S16384x1 : Shape := ⟨2, ![16384, 1]⟩
abbrev S512x256 : Shape := ⟨2, ![512, 256]⟩
abbrev S512x8192 : Shape := ⟨2, ![512, 8192]⟩
abbrev S512x1 : Shape := ⟨2, ![512, 1]⟩
abbrev S8192 : Shape := ⟨1, ![8192]⟩
abbrev S8192x1 : Shape := ⟨2, ![8192, 1]⟩
abbrev S512 : Shape := ⟨1, ![512]⟩
abbrev S512x128 : Shape := ⟨2, ![512, 128]⟩
abbrev S512x512 : Shape := ⟨2, ![512, 512]⟩
abbrev S16384 : Shape := ⟨1, ![16384]⟩

abbrev nBuf : Space → Nat
  | .hbm => 5
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S16384x8192, .f32⟩
  | .hbm, ⟨3, _⟩ => ⟨S16384x1, .i32⟩
  | .hbm, ⟨4, _⟩ => ⟨S16384, .i32⟩
  | .local _ .vmem, ⟨0, _⟩ => ⟨S512x256, .f32⟩
  | .local _ .vmem, ⟨1, _⟩ => ⟨S512x256, .f32⟩
  | .local _ .vmem, ⟨2, _⟩ => ⟨S8192x256, .f32⟩
  | .local _ .vmem, ⟨3, _⟩ => ⟨S512x8192, .f32⟩
  | .local _ .vmem, ⟨4, _⟩ => ⟨S512x8192, .f32⟩
  | .local _ .vmem, ⟨5, _⟩ => ⟨S512x1, .i32⟩
  | .local _ .vmem, ⟨6, _⟩ => ⟨S512x1, .i32⟩
  | .local _ .vmem, ⟨7, _⟩ => ⟨S8192x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x256 : Shape := ⟨2, ![16384, 256]⟩
abbrev S8192x256 : Shape := ⟨2, ![8192, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S256x8192 : Shape := ⟨2, ![256, 8192]⟩
abbrev S16384x8192 : Shape := ⟨2, ![16384, 8192]⟩

abbrev nBuf : Space → Nat
  | .hbm => 29
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x256, .f32⟩
  | .hbm, ⟨11, _⟩ => ⟨S16384x256, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S256x8192, .f32⟩
  | .hbm, ⟨23, _⟩ => ⟨S16384x8192, .f32⟩
  | .hbm, ⟨24, _⟩ => ⟨S16384x8192, .i32⟩
  | .hbm, ⟨25, _⟩ => ⟨S_, .f32⟩
  | .hbm, ⟨26, _⟩ => ⟨S_, .i32⟩
  | .hbm, ⟨27, _⟩ => ⟨S16384, .f32⟩
  | .hbm, ⟨28, _⟩ => ⟨S16384, .i32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call2_v0 : Ref sig .tc := ⟨.hbm, 24, rfl⟩
abbrev main_call2_cst : Ref sig .tc := ⟨.hbm, 25, rfl⟩
abbrev main_call2_c : Ref sig .tc := ⟨.hbm, 26, rfl⟩
abbrev main_call2_v1_0 : Ref sig .tc := ⟨.hbm, 27, rfl⟩
abbrev main_v12 : Ref sig .tc := ⟨.hbm, 28, rfl⟩

abbrev nD : Nat := 1
abbrev τ : Topo := Topo.v7x

variable {F : FTy → Type} [FloatOps F]
-- ==== Proof.Fold.lean ====
/-
  The arithmetic of a row maximum, free of any program: the running maximum of one lane with the number of
  the block that holds it, the smallest index among the lanes that hold the row's maximum, and a
  left fold that keeps the better of two (value, index) pairs. Both ways of searching a row return the
  first index at which the row's maximum stands.
-/
module

public import Idealize.ShloMosaic.Lib.Pointwise

@[expose] public section

noncomputable section

namespace Cert.Fold

open Idealize.ShloMosaic

/-- The index `K` holds the greatest entry of `s`, and no smaller index does. -/
def IsFirstMax {n : ℕ} (s : Fin n → EReal) (K : Fin n) : Prop :=
  (∀ j, s j ≤ s K) ∧ ∀ j, s j = s K → K ≤ j

/-- A row with at least one entry has a first greatest one. -/
theorem exists_firstMax {n : ℕ} [NeZero n] (s : Fin n → EReal) : ∃ K, IsFirstMax s K := by
  obtain ⟨m, hm⟩ := Finite.exists_max s
  have hne : (Finset.univ.filter fun i => s i = s m).Nonempty := ⟨m, by simp⟩
  have hmem := Finset.min'_mem _ hne
  have hK : s ((Finset.univ.filter fun i => s i = s m).min' hne) = s m := (Finset.mem_filter.1 hmem).2
  refine ⟨(Finset.univ.filter fun i => s i = s m).min' hne, fun j => (hm j).trans hK.ge, fun j hj => ?_⟩
  exact Finset.min'_le _ _ (by simp [hj, hK])

/-! ### Rows of length one -/

/-- An entry over its row's norm, the norm held away from zero by a small constant: the entry `k` of row
`r` of a table of `a` rows of length 256, its rows made of length one. -/
def hat {a : ℕ} (v : (⟨2, ![a, 256]⟩ : Shape).Idx → EReal) (r : Fin a) (k : Fin 256) : EReal :=
  Ideal.div (v (ix2 r k)) (max (Ideal.sqrt (∑ x : Fin 256, v (ix2 r x) * v (ix2 r x))) (Ideal.ofBits FTy.f32 730643660#32))

/-! ### One lane: its running maximum and the block number that holds it -/

/-- The maximum of the first `n` terms of `g`, `⊥` for none. -/
def runMax (g : ℕ → EReal) : ℕ → EReal
  | 0 => ⊥
  | n + 1 => max (runMax g n) (g n)

/-- The number of the term that last raised the running maximum, as a word; zero when none did. -/
def runWord (g : ℕ → EReal) : ℕ → BitVec 32
  | 0 => 0#32
  | n + 1 => if runMax g n < g n then BitVec.ofNat 32 n else runWord g n

/-- Before any entry the maximum is least of all. -/
theorem runMax_zero (g : ℕ → EReal) : runMax g 0 = ⊥ := rfl
/-- Before any entry the place is 0. -/
theorem runWord_zero (g : ℕ → EReal) : runWord g 0 = 0#32 := rfl
/-- One more entry: the larger of the maximum so far and it. -/
theorem runMax_succ (g : ℕ → EReal) (n : ℕ) : runMax g (n + 1) = max (runMax g n) (g n) := rfl
/-- One more entry: its place if it is larger than the maximum so far, else the place so far. -/
theorem runWord_succ (g : ℕ → EReal) (n : ℕ) :
    runWord g (n + 1) = if runMax g n < g n then BitVec.ofNat 32 n else runWord g n := rfl

/-- Every term is at most the running maximum past it. -/
theorem le_runMax (g : ℕ → EReal) {n c : ℕ} (h : c < n) : g c ≤ runMax g n := by
  induction n with
  | zero => omega
  | succ n ih =>
    rcases Nat.lt_succ_iff_lt_or_eq.1 h with h | rfl
    · exact (ih h).trans (le_max_left _ _)
    · exact le_max_right _ _

/-- After at least one term, the word kept is the number of the first term that equals the running maximum. -/
theorem runWord_spec (g : ℕ → EReal) (n : ℕ) :
    ∃ i, i < n + 1 ∧ runWord g (n + 1) = BitVec.ofNat 32 i ∧ g i = runMax g (n + 1) ∧ ∀ c < i, g c < runMax g (n + 1) := by
  induction n with
  | zero => exact ⟨0, by omega, by simp [runWord], by simp [runMax], fun c hc => absurd hc (by omega)⟩
  | succ n ih =>
    obtain ⟨i, hi, hw, hg, hlt⟩ := ih
    by_cases hc : runMax g (n + 1) < g (n + 1)
    · have hm : runMax g (n + 2) = g (n + 1) := max_eq_right hc.le
      refine ⟨n + 1, by omega, ?_, hm.symm, fun c h => hm ▸ (le_runMax g h).trans_lt hc⟩
      show (if _ then _ else _) = _
      rw [if_pos hc]
    · have hm : runMax g (n + 2) = runMax g (n + 1) := max_eq_left (not_lt.1 hc)
      refine ⟨i, by omega, ?_, hm ▸ hg, fun c h => hm ▸ hlt c h⟩
      show (if _ then _ else _) = _
      rw [if_neg hc, hw]

/-- What a kernel carries for one lane after `n` blocks: the running maximum `a` and the word `i`. -/
def Run (g : ℕ → EReal) (n : ℕ) (a : EReal) (i : BitVec 32) : Prop := a = runMax g n ∧ i = runWord g n

/-! ### The lanes together: the smallest index that holds the maximum -/

/-- The signed minimum of two small words is the word of the smaller number. -/
theorem minsi_ofNat {a b : ℕ} (ha : a < 2147483648) (hb : b < 2147483648) :
    IntOp.minsi (BitVec.ofNat 32 a) (BitVec.ofNat 32 b) = BitVec.ofNat 32 (min a b) := by
  have e : (BitVec.ofNat 32 a).slt (BitVec.ofNat 32 b) = decide (a < b) := by
    rw [BitVec.slt, BitVec.toInt_eq_toNat_of_lt, BitVec.toInt_eq_toNat_of_lt] <;>
      simp only [BitVec.toNat_ofNat] <;> first | omega | skip
    rw [Nat.mod_eq_of_lt (by omega), Nat.mod_eq_of_lt (by omega)]
    simp
  show (if (BitVec.ofNat 32 a).slt (BitVec.ofNat 32 b) then _ else _) = _
  rw [e]
  by_cases h : a < b
  · simp [h, min_eq_left h.le]
  · simp [h, min_eq_right (not_lt.1 h)]

/-- A signed minimum over a finite family of small words, none below `K` and one equal to it, is `K`. -/
theorem fold_minsi {ι : Type} [Fintype ι] (f : ι → BitVec 32) (v : ι → ℕ) (K : ℕ) (x0 : ι)
    (hf : ∀ x, f x = BitVec.ofNat 32 (v x)) (hv : ∀ x, v x < 2147483648) (hK : ∀ x, K ≤ v x) (h0 : v x0 = K) :
    Finset.fold IntOp.minsi 2147483647#32 f Finset.univ = BitVec.ofNat 32 K := by
  classical
  have key : ∀ t : Finset ι, ∃ w, Finset.fold IntOp.minsi 2147483647#32 f t = BitVec.ofNat 32 w ∧ w < 2147483648
      ∧ K ≤ w ∧ (x0 ∈ t → w = K) := by
    intro t
    induction t using Finset.induction_on with
    | empty => exact ⟨2147483647, rfl, by omega, by have := hv x0; omega, fun h => absurd h (by simp)⟩
    | insert a t ha ih =>
      obtain ⟨w, hw, hlt, hle, hmem⟩ := ih
      have hva := hv a
      have hKa := hK a
      refine ⟨min (v a) w, ?_, by omega, by omega, fun hx => ?_⟩
      · rw [Finset.fold_insert ha, hw, hf a, minsi_ofNat (hv a) hlt]
      · rcases Finset.mem_insert.1 hx with rfl | hx
        · omega
        · have := hmem hx; omega
  obtain ⟨w, hw, -, -, hmem⟩ := key Finset.univ
  rw [hw, hmem (Finset.mem_univ _)]

/-- A maximum over a finite family that is bounded by `M` and attains it is `M`. -/
theorem fold_max {ι : Type} [Fintype ι] (f : ι → EReal) (M : EReal) (x0 : ι) (hf : ∀ x, f x ≤ M) (h0 : f x0 = M) :
    Finset.fold max ⊥ f Finset.univ = M := by
  apply le_antisymm
  · exact (Finset.fold_max_le M).2 ⟨bot_le, fun x _ => hf x⟩
  · exact Finset.le_fold_max M |>.2 (Or.inr ⟨x0, Finset.mem_univ _, h0.ge⟩)

/-- Lane `l` of a row of 8192 entries: the entries `128 c + l`, by the block number `c`. -/
def lane (s : Fin 8192 → EReal) (l : Fin 128) (c : ℕ) : EReal := s (Fin.ofNat 8192 (128 * c + l))

/-- From the 128 lanes, each carried through the 64 blocks of the row, the smallest index `128 i + l` over the
lanes `l` whose maximum is the row's, `i` being the block number carried there, is the first index at which the row's
maximum stands. -/
theorem lanes_argmax (s : Fin 8192 → EReal) (K : Fin 8192) (hK : IsFirstMax s K) (a : Fin 128 → EReal)
    (i : Fin 128 → BitVec 32) (h : ∀ l, Run (lane s l) 64 (a l) (i l)) :
    Finset.fold IntOp.minsi 2147483647#32
      (fun l : Fin 128 => if a l = Finset.fold max ⊥ a Finset.univ
        then IntOp.addi (IntOp.muli (i l) 128#32) (BitVec.ofNat 32 l) else 2147483647#32) Finset.univ
    = BitVec.ofNat 32 K := by
  have hsp : ∀ l, ∃ n, n < 64 ∧ i l = BitVec.ofNat 32 n ∧ lane s l n = a l ∧ ∀ c < n, lane s l c < a l := by
    intro l
    obtain ⟨n, hn, hw, hg, hlt⟩ := runWord_spec (lane s l) 63
    have h1 := (h l).1
    have h2 := (h l).2
    exact ⟨n, hn, h2.trans hw, hg.trans h1.symm, fun c hc => h1 ▸ hlt c hc⟩
  choose n hn hi hg hlt using hsp
  have hKl := K.isLt
  have hl0 : (K : ℕ) % 128 < 128 := Nat.mod_lt _ (by omega)
  have hlane : lane s ⟨K % 128, hl0⟩ (K / 128) = s K := by
    unfold lane
    congr 1
    apply Fin.ext
    rw [Fin.val_ofNat]
    show (128 * ((K : ℕ) / 128) + (K : ℕ) % 128) % 8192 = K
    omega
  have hle : ∀ l, a l ≤ s K := fun l => (hg l) ▸ hK.1 _
  have ha0 : a ⟨K % 128, hl0⟩ = s K := by
    refine le_antisymm (hle _) ?_
    rw [← hlane, (h _).1]
    exact le_runMax _ (by omega)
  have hmax : Finset.fold max ⊥ a Finset.univ = s K := fold_max a (s K) _ hle ha0
  rw [hmax]
  have hge : ∀ l, a l = s K → (K : ℕ) ≤ 128 * n l + l := by
    intro l hl
    have e := hK.2 _ ((hg l).trans hl)
    have e' : (K : ℕ) ≤ (Fin.ofNat 8192 (128 * n l + l) : Fin 8192).val := e
    rw [Fin.val_ofNat] at e'
    have := hn l
    have := l.isLt
    omega
  refine fold_minsi _ (fun l => if a l = s K then 128 * n l + l else 2147483647) K ⟨K % 128, hl0⟩ ?_ ?_ ?_ ?_
  · intro l
    by_cases hl : a l = s K
    · simp only [hl, if_true]
      rw [hi l]
      show BitVec.ofNat 32 (n l) * BitVec.ofNat 32 128 + _ = _
      rw [← BitVec.ofNat_mul, ← BitVec.ofNat_add, Nat.mul_comm]
    · simp only [hl, if_false]
  · intro l
    have := hn l
    have := l.isLt
    split <;> omega
  · intro l
    split
    · exact hge l ‹_›
    · omega
  · dsimp only
    rw [if_pos ha0]
    have h1 := hge _ ha0
    have h2 : n ⟨K % 128, hl0⟩ ≤ K / 128 := by
      by_contra hc
      have := hlt ⟨K % 128, hl0⟩ (K / 128) (by omega)
      rw [hlane, ha0] at this
      exact lt_irrefl _ this
    have h1' : (K : ℕ) ≤ 128 * n ⟨K % 128, hl0⟩ + (K : ℕ) % 128 := h1
    show 128 * n ⟨K % 128, hl0⟩ + (K : ℕ) % 128 = K
    omega

/-! ### The fold of (value, index) pairs -/

/-- The pair `p` is at least as good as `q`: a greater value, or the same value at no greater index. -/
def Beats (p q : EReal × BitVec 32) : Prop := q.1 < p.1 ∨ q.1 = p.1 ∧ p.2.toInt ≤ q.2.toInt

/-- Every pair beats itself, in the weak sense. -/
theorem Beats.rfl' (p : EReal × BitVec 32) : Beats p p := Or.inr ⟨rfl, le_rfl⟩

/-- What beats a pair beats whatever that pair beats. -/
theorem Beats.trans {p q r : EReal × BitVec 32} (h : Beats p q) (k : Beats q r) : Beats p r := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- A left fold that keeps the better of two pairs ends at one of the pairs it was given, at least as good as them all. -/
theorem foldl_best (f : EReal × BitVec 32 → EReal × BitVec 32 → EReal × BitVec 32)
    (hf : ∀ p q, (f p q = p ∧ Beats p q) ∨ (f p q = q ∧ Beats q p)) (L : List (EReal × BitVec 32)) (p : EReal × BitVec 32) :
    L.foldl f p ∈ p :: L ∧ ∀ q ∈ p :: L, Beats (L.foldl f p) q := by
  induction L generalizing p with
  | nil => simpa using Beats.rfl' p
  | cons b L ih =>
    obtain ⟨hm, hb⟩ := ih (f p b)
    rw [List.foldl_cons]
    rcases hf p b with ⟨e, hpb⟩ | ⟨e, hpb⟩ <;> rw [e] at hm hb ⊢
    · refine ⟨?_, fun q hq => ?_⟩
      · rcases List.mem_cons.1 hm with h | h
        · rw [h]; simp
        · simp [h]
      · rcases List.mem_cons.1 hq with rfl | hq
        · exact hb _ (by simp)
        · rcases List.mem_cons.1 hq with rfl | hq
          · exact (hb p (by simp)).trans hpb
          · exact hb _ (by simp [hq])
    · refine ⟨List.mem_cons_of_mem _ hm, fun q hq => ?_⟩
      rcases List.mem_cons.1 hq with rfl | hq
      · exact (hb b (by simp)).trans hpb
      · exact hb _ hq

/-- The second halves of a family of pairs. -/
def seconds {ι α β : Type} (p : ι → α × β) : ι → β := fun j => (p j).2

/-- The index half of a search along the second axis of a table, started from `(⊥, 0)`, for any reducer that keeps the
better of two pairs: at a row it is the first index at which that row's maximum stands. -/
theorem argReduce_firstMax {a b : ℕ} {t u : Shape} {axes : List (Fin (⟨2, ![a, b]⟩ : Shape).rank)} (f : EReal × BitVec 32 → EReal × BitVec 32 → EReal × BitVec 32)
    (hf : ∀ p q, (f p q = p ∧ Beats p q) ∨ (f p q = q ∧ Beats q p)) (hb : b ≤ 2147483648)
    (x : FVec Ideal ⟨2, ![a, b]⟩ .f32) (y : (⟨2, ![a, b]⟩ : Shape).Idx → BitVec 32)
    (hy : ∀ r k, y (ix2 r k) = BitVec.ofNat 32 k) (ix : u.Idx → Ideal .f32) (iy : u.Idx → BitVec 32)
    (h : (⟨2, ![a, b]⟩ : Shape).ReducesTo axes t) (hu : 0 < u.numel)
    (hix : ix (Shape.Idx.first hu) = (⊥ : EReal)) (hiy : iy (Shape.Idx.first hu) = 0#32) (j : t.Idx) (r : Fin a)
    (hr : ∀ k : Fin b, h.drop (ix2 r k) = j) (hr' : ∀ i, h.drop i = j → ∃ k : Fin b, ix2 r k = i)
    (K : Fin b) (hK : IsFirstMax (fun k : Fin b => (x (ix2 r k) : EReal)) K) :
    seconds (Host.argReduce f x y ix iy h hu) j = BitVec.ofNat 32 K := by
  unfold seconds
  rw [Ideal.argReduce_eq_reduce2, Host.reduce2_eq_foldl_fiber, hix, hiy]
  obtain ⟨hm, hbt⟩ := foldl_best f hf (Host.argReduceFiber x y h j) (⊥, 0#32)
  generalize hR : (Host.argReduceFiber x y h j).foldl f (⊥, 0#32) = R at hm hbt
  have hmem : ∀ k : Fin b, ((x (ix2 r k) : EReal), BitVec.ofNat 32 k) ∈ Host.argReduceFiber x y h j := by
    intro k
    unfold Host.argReduceFiber
    refine List.mem_map.2 ⟨Shape.rowMajor _ (ix2 r k), List.mem_filter.2 ⟨List.mem_finRange _, ?_⟩, ?_⟩
    · simp [hr k]
    · simp [hy r k]
  have hrep : ∀ p ∈ Host.argReduceFiber x y h j, ∃ k : Fin b, p = ((x (ix2 r k) : EReal), BitVec.ofNat 32 k) := by
    intro p hp
    unfold Host.argReduceFiber at hp
    obtain ⟨n, hn, rfl⟩ := List.mem_map.1 hp
    obtain ⟨k, hk⟩ := hr' _ (by simpa using (List.mem_filter.1 hn).2)
    exact ⟨k, by rw [← hk, hy r k]⟩
  have hint : ∀ k : Fin b, (BitVec.ofNat 32 k).toInt = k := by
    intro k
    have := k.isLt
    rw [BitVec.toInt_eq_toNat_of_lt] <;> rw [BitVec.toNat_ofNat, Nat.mod_eq_of_lt (by omega)]
    omega
  have hBK := hbt _ (List.mem_cons_of_mem _ (hmem K))
  rcases List.mem_cons.1 hm with rfl | hm
  · have hsK : (x (ix2 r K) : EReal) = ⊥ := by
      rcases hBK with h | ⟨h, -⟩
      · exact absurd h (by simp)
      · exact h
    have h0 : (0 : ℕ) < b := lt_of_le_of_lt (Nat.zero_le _) K.isLt
    have := hK.2 ⟨0, h0⟩ (by
      have := hK.1 ⟨0, h0⟩
      dsimp only at this ⊢
      rw [hsK] at this ⊢
      exact le_bot_iff.1 this)
    have hK0 : (K : ℕ) = 0 := Nat.le_zero.1 this
    rw [hK0]
  · obtain ⟨k, rfl⟩ := hrep _ hm
    have hk := hK.1 k
    rcases hBK with h | ⟨h, h'⟩
    · exact absurd h (not_lt.2 hk)
    · have h1 : (K : ℕ) ≤ k := hK.2 k h.symm
      have h2 : (BitVec.ofNat 32 k).toInt ≤ (BitVec.ofNat 32 K).toInt := h'
      rw [hint, hint] at h2
      have : (k : ℕ) = K := by omega
      rw [this]

end Cert.Fold
-- ==== Proof.RefRun.lean ====
/-
  The run of the reference program. It launches no kernel: it is one line of array operations (two
  normalisations, a transpose, one contraction, and the argmax over the rows), so every buffer ends at the
  composition of the operations that write it. This file names those compositions and states the run.
-/
module

public import proofs.«01_k».proof.Proof.Gen.ReferenceIdeal
public import proofs.«01_k».proof.Proof.Fold
public import Idealize.ShloMosaic.Lib.StableHlo.Run
public import Idealize.ShloMosaic.Lib.Quiescent

@[expose] public section

noncomputable section

namespace Cert.RefRun

open Cert.Fold
open Cert.ReferenceIdeal Cert.ReferenceIdeal.Gen
open Idealize.ShloMosaic Idealize.ShloMosaic.TcCoe Idealize.ShloMosaic.StableHlo Idealize.SL.Sem

variable {F : FTy → Type} [FloatOps F]

/-- The reference's operations in program order, each call's body in the place of the call. -/
abbrev line : List (HloOp τ sig (Elt F)) :=
  [ binary main_arg0 main_arg0 main_call0_v0 mulf,
    nullary main_call0_cst (constant S_ .f32 0x00000000#32),
    binary main_call0_v0 main_call0_cst main_call0_v1 (fun x v => Host.reduceAdd x v reducesTo_S16384x256_S16384_d1 h_S_),
    unary main_call0_v1 main_call0_v2 (broadcastInDim S16384x1 ![0] bcast_S16384_S16384x1_0),
    unary main_call0_v2 main_v0 Host.sqrt,
    nullary main_cst (constant S_ .f32 0x2B8CBCCC#32),
    unary main_cst main_v1 (broadcastInDim S16384x1 ![] bcast_S_S16384x1),
    binary main_v0 main_v1 main_v2 maximumf,
    unary main_v2 main_v3 (broadcastInDim S16384x256 ![0, 1] bcast_S16384x1_S16384x256_0_1),
    binary main_arg0 main_v3 main_v4 Host.divf,
    binary main_arg1 main_arg1 main_call1_v0 mulf,
    nullary main_call1_cst (constant S_ .f32 0x00000000#32),
    binary main_call1_v0 main_call1_cst main_call1_v1 (fun x v => Host.reduceAdd x v reducesTo_S8192x256_S8192_d1 h_S_),
    unary main_call1_v1 main_call1_v2 (broadcastInDim S8192x1 ![0] bcast_S8192_S8192x1_0),
    unary main_call1_v2 main_v5 Host.sqrt,
    nullary main_cst_0 (constant S_ .f32 0x2B8CBCCC#32),
    unary main_cst_0 main_v6 (broadcastInDim S8192x1 ![] bcast_S_S8192x1),
    binary main_v5 main_v6 main_v7 maximumf,
    unary main_v7 main_v8 (broadcastInDim S8192x256 ![0, 1] bcast_S8192x1_S8192x256_0_1),
    binary main_arg1 main_v8 main_v9 Host.divf,
    unary main_v9 main_v10 (transpose S256x8192 [1, 0] · transposes_S8192x256_S256x8192_1_0),
    binary main_v4 main_v10 main_v11 (fun l r => Host.dotGeneral dot_S16384x256_S256x8192_S16384x8192_1_0_0_1_n_n none l r),
    nullary main_call2_v0 (iotaInDim S16384x8192 32 1),
    nullary main_call2_cst (constant S_ .f32 0xFF800000#32),
    nullary main_call2_c (constantI S_ 32 0#32),
    quaternary main_v11 main_call2_v0 main_call2_cst main_call2_c main_call2_v1_0
      (fun x y u v j => (Host.argReduce reducer_argmax_f32_i32 x y u v reducesTo_S16384x8192_S16384_d1 h_S_ j).1),
    quaternary main_v11 main_call2_v0 main_call2_cst main_call2_c main_v12
      (fun x y u v j => (Host.argReduce reducer_argmax_f32_i32 x y u v reducesTo_S16384x8192_S16384_d1 h_S_ j).2) ]

/-- The reference's program is that line. -/
theorem main_line (c : Dev nD) : main (F := F) c = seq line := rfl

/-- Every operation of the line works on arrays of the main memory. -/
theorem line_bufs : (line : List (HloOp τ sig (Elt F))).Forall fun op => op.bufs ⊆ tcRefs τ sig :=
  ⟨binary_bufs_sub .., nullary_bufs_sub .., binary_bufs_sub .., unary_bufs_sub .., unary_bufs_sub ..,
    nullary_bufs_sub .., unary_bufs_sub .., binary_bufs_sub .., unary_bufs_sub .., binary_bufs_sub ..,
    binary_bufs_sub .., nullary_bufs_sub .., binary_bufs_sub .., unary_bufs_sub .., unary_bufs_sub ..,
    nullary_bufs_sub .., unary_bufs_sub .., binary_bufs_sub .., unary_bufs_sub .., binary_bufs_sub ..,
    unary_bufs_sub .., binary_bufs_sub .., nullary_bufs_sub .., nullary_bufs_sub .., nullary_bufs_sub ..,
    quaternary_bufs_sub .., quaternary_bufs_sub ..⟩

/-- The features with every row divided by the larger of its norm and the constant, as the reference writes it. -/
def normFeat (x : FVec F S16384x256 .f32) : FVec F S16384x256 .f32 :=
  Host.divf x (broadcastInDim S16384x256 ![0, 1] bcast_S16384x1_S16384x256_0_1
    (maximumf (Host.sqrt (broadcastInDim S16384x1 ![0] bcast_S16384_S16384x1_0
        (Host.reduceAdd (mulf x x) (constant S_ .f32 0x00000000#32) reducesTo_S16384x256_S16384_d1 h_S_)))
      (broadcastInDim S16384x1 ![] bcast_S_S16384x1 (constant S_ .f32 0x2B8CBCCC#32))))

/-- The same of the prototypes. -/
def normProto (x : FVec F S8192x256 .f32) : FVec F S8192x256 .f32 :=
  Host.divf x (broadcastInDim S8192x256 ![0, 1] bcast_S8192x1_S8192x256_0_1
    (maximumf (Host.sqrt (broadcastInDim S8192x1 ![0] bcast_S8192_S8192x1_0
        (Host.reduceAdd (mulf x x) (constant S_ .f32 0x00000000#32) reducesTo_S8192x256_S8192_d1 h_S_)))
      (broadcastInDim S8192x1 ![] bcast_S_S8192x1 (constant S_ .f32 0x2B8CBCCC#32))))

/-- The reference's table of similarities. -/
def simTable (f : FVec F S16384x256 .f32) (p : FVec F S8192x256 .f32) : FVec F S16384x8192 .f32 :=
  Host.dotGeneral dot_S16384x256_S256x8192_S16384x8192_1_0_0_1_n_n none (normFeat f)
    (transpose S256x8192 [1, 0] (normProto p) transposes_S8192x256_S256x8192_1_0)

/-- The reference's argmax along the rows of a table. -/
def rowArgmax (s : FVec F S16384x8192 .f32) : IVec S16384 32 :=
  seconds (Host.argReduce reducer_argmax_f32_i32 s (iotaInDim S16384x8192 32 1) (constant (F := F) S_ .f32 0xFF800000#32)
    (constantI S_ 32 0#32) reducesTo_S16384x8192_S16384_d1 h_S_)

/-- After the line the similarities' array holds `simTable` of the two arguments. -/
theorem line_sim (V : Valuation τ sig (Elt F)) :
    after line V (main_v11 : DevRef τ sig)
      = simTable (V (main_arg0 : DevRef τ sig)) (V (main_arg1 : DevRef τ sig)) := by
  after_results
  rfl

/-- After the line the ids' array holds the argmax of the similarities. -/
theorem line_ids (V : Valuation τ sig (Elt F)) :
    after line V (main_v12 : DevRef τ sig)
      = rowArgmax (simTable (V (main_arg0 : DevRef τ sig)) (V (main_arg1 : DevRef τ sig))) := by
  after_results
  rfl

/-- The line leaves the features as they were. -/
theorem line_arg0 (V : Valuation τ sig (Elt F)) :
    after line V (main_arg0 : DevRef τ sig) = V (main_arg0 : DevRef τ sig) := by
  after_results

/-- The line leaves the prototypes as they were. -/
theorem line_arg1 (V : Valuation τ sig (Elt F)) :
    after line V (main_arg1 : DevRef τ sig) = V (main_arg1 : DevRef τ sig) := by
  after_results

/-- The reference's signature scopes no buffer. -/
theorem no_scoped_refs : (Finset.univ.filter fun b : Ref sig .tc => b.isScoped) = ∅ := by decide
/-- The reference's signature scopes no semaphore. -/
theorem no_scoped_sems : (Finset.univ.filter fun sm : SemLoc sig => sm.isScoped .tc) = ∅ := by decide

/-- Every run of the reference ends with the ids at the argmax of the similarities, the similarities at
    `simTable` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = rowArgmax (simTable (m ((c.tc : Thread nD τ).loc main_arg0)) (m ((c.tc : Thread nD τ).loc main_arg1)))
      ∧ r.2.mem ((c.tc : Thread nD τ).loc main_v11)
          = simTable (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v12).trans (line_ids _), (h c main_v11).trans (line_sim _),
      (h c main_arg0).trans (line_arg0 _), (h c main_arg1).trans (line_arg1 _)⟩)
    (run_seq no_scoped_refs no_scoped_sems defs main (fun _ => line) main_line (fun _ => line_bufs) m ρ)

end Cert.RefRun

end
-- ==== Proof.RefValue.lean ====
/-
  The values of the reference, ideally: the cosine table entry by entry, and the argmax of a row as the
  first index at which the row's maximum stands.
-/
module

public import proofs.«01_k».proof.Proof.RefRun

@[expose] public section

set_option maxRecDepth 16384

noncomputable section

namespace Cert.RefValue

open Cert.ReferenceIdeal Cert.ReferenceIdeal.Gen Cert.RefRun Cert.Fold
open Idealize.ShloMosaic Idealize.ShloMosaic.TcCoe

/-- The reference's normalised features, entry by entry. -/
theorem normFeat_apply (v : FVec Ideal S16384x256 .f32) (r : Fin 16384) (k : Fin 256) :
    normFeat v (ix2 r k) = hat v r k := by
  pointwise [normFeat, hat]

/-- The reference's normalised prototypes, entry by entry. -/
theorem normProto_apply (v : FVec Ideal S8192x256 .f32) (r : Fin 8192) (k : Fin 256) :
    normProto v (ix2 r k) = hat v r k := by
  pointwise [normProto, hat]

/-- The reference's cosine table: entry `(r, k)` is the product of the normalised rows `r` and `k`. -/
theorem simTable_apply (v : FVec Ideal S16384x256 .f32) (p : FVec Ideal S8192x256 .f32) (r : Fin 16384) (k : Fin 8192) :
    simTable v p (ix2 r k) = ∑ x : Fin 256, hat v r x * hat p k x := by
  pointwise [simTable]
  simp only [normFeat_apply, normProto_apply]

/-- The reference's reducer keeps the better of two (value, index) pairs. -/
theorem reducer_best (p q : EReal × BitVec 32) :
    (reducer_argmax_f32_i32 (F := Ideal) p q = p ∧ Beats p q) ∨ (reducer_argmax_f32_i32 (F := Ideal) p q = q ∧ Beats q p) := by
  obtain ⟨p1, p2⟩ := p
  obtain ⟨q1, q2⟩ := q
  have hs : p2.slt q2 = decide (p2.toInt < q2.toInt) := rfl
  rcases lt_trichotomy q1 p1 with h | h | h
  · refine Or.inl ⟨?_, Or.inl h⟩
    simp [reducer_argmax_f32_i32, FloatOps.cmpf, Ideal.cmp, IntOp.ori, IntOp.andi, IntOp.cmpi, Scalar.select, h]
    generalize (decide (p1 = q1) && p2.slt q2) = b
    cases b <;> simp
  · subst h
    by_cases hi : p2.toInt < q2.toInt
    · refine Or.inl ⟨?_, Or.inr ⟨rfl, hi.le⟩⟩
      simp [reducer_argmax_f32_i32, FloatOps.cmpf, Ideal.cmp, IntOp.ori, IntOp.andi, IntOp.cmpi, Scalar.select, hs, hi]
    · refine Or.inr ⟨?_, Or.inr ⟨rfl, not_lt.1 hi⟩⟩
      simp [reducer_argmax_f32_i32, FloatOps.cmpf, Ideal.cmp, IntOp.ori, IntOp.andi, IntOp.cmpi, Scalar.select, hs, hi]
  · refine Or.inr ⟨?_, Or.inl h⟩
    simp [reducer_argmax_f32_i32, FloatOps.cmpf, Ideal.cmp, IntOp.ori, IntOp.andi, IntOp.cmpi, Scalar.select, h.not_gt, h.ne]

/-- The bit pattern the searches start from is the least extended real. -/
theorem start_eq_bot : Ideal.ofBits FTy.f32 0xFF800000#32 = ⊥ := by
  simp [Ideal.ofBits, Ideal.ieee]

/-- The table of column numbers, entry by entry. -/
theorem iota_apply (r : Fin 16384) (k : Fin 8192) : iotaInDim S16384x8192 32 1 (ix2 r k) = BitVec.ofNat 32 k := rfl

/-- The value the reference's search starts from. -/
theorem start_apply : constant (F := Ideal) S_ .f32 0xFF800000#32 (Shape.Idx.first h_S_) = (⊥ : EReal) := start_eq_bot

/-- The entries of row `r` fall on entry `r` when the columns are dropped. -/
theorem drop_row (r : Fin 16384) (k : Fin 8192) : reducesTo_S16384x8192_S16384_d1.drop (ix2 r k) = ix1 r :=
  (reducesTo_S16384x8192_S16384_d1.fiber_r2_a1 (ix1 r) _).2 ⟨k, rfl⟩

/-- Only the entries of row `r` do. -/
theorem exists_of_drop (r : Fin 16384) (i : S16384x8192.Idx) (hi : reducesTo_S16384x8192_S16384_d1.drop i = ix1 r) :
    ∃ k : Fin 8192, ix2 r k = i :=
  (reducesTo_S16384x8192_S16384_d1.fiber_r2_a1 (ix1 r) i).1 hi

/-- The reference's argmax of a row is the first index at which the row's maximum stands. -/
theorem rowArgmax_apply (s : FVec Ideal S16384x8192 .f32) (r : Fin 16384) (K : Fin 8192)
    (hK : IsFirstMax (fun k : Fin 8192 => (s (ix2 r k) : EReal)) K) :
    rowArgmax s (ix1 r) = BitVec.ofNat 32 K := by
  exact argReduce_firstMax (a := 16384) (b := 8192) _ reducer_best (by decide) s _ iota_apply _ _ _ _ start_apply rfl _ r
    (drop_row r) (exists_of_drop r) K hK

end Cert.RefValue
-- ==== Proof.Parts.lean ====
/-
  The twelve steps of the kernel's search along a row. A step takes the running maximum and the block
  number that the lanes carry, and the next few blocks of 128 similarities it has just read; it returns the two
  carried on past those blocks. A last step takes the remaining three blocks and returns the row's index.
-/
module

public import proofs.«01_k».proof.Proof.Gen.KernelIdeal.Skeleton
public import proofs.«01_k».proof.Proof.Fold

@[expose] public section

set_option maxRecDepth 16384

noncomputable section

namespace Cert.Parts

open Cert.KernelIdeal Cert.KernelIdeal.Gen Cert.Fold
open Idealize.ShloMosaic Idealize.ShloMosaic.TcCoe

/-- The bit pattern the kernel's search starts from is the least extended real. -/
theorem start_eq_bot : Ideal.ofBits FTy.f32 4286578688#32 = ⊥ := by
  simp [Ideal.ofBits, Ideal.ieee]

/-- A block of 128 similarities that, at lane `l` of row `r`, holds the term number `n` of the sequence `g`. -/
def Holds (g : ℕ → EReal) (r : Fin 512) (l : Fin 128) (n : ℕ) (v : Vec Ideal S512x128 .f32) : Prop := v (ix2 r l) = g n

/-- Step 1: from block 0 up to block 2. -/
theorem step_1 (g : ℕ → EReal) (r : Fin 512) (l : Fin 128) (v0 v1 v2 : Vec Ideal S512x128 .f32)
    (h0 : Holds g r l 0 v0) (h1 : Holds g r l 1 v1) (h2 : Holds g r l 2 v2) :
    Run g 3 (k0_pay11 v0 v1 v2 (ix2 r l)) (k0_pay12 v0 v1 v2 (ix2 r l)) := by
  unfold Holds at *
  constructor
  · unfold_payloads
    pointwise
    simp only [start_eq_bot, runMax_succ g 2, runMax_succ g 1, runMax_succ g 0, runMax_zero, h0, h1, h2]
  · unfold_payloads
    pointwise
    simp only [start_eq_bot, runMax_succ g 2, runMax_succ g 1, runMax_succ g 0, runMax_zero, runWord_succ g 2, runWord_succ g 1, runWord_succ g 0, runWord_zero, h0, h1, h2]
    rfl

/-- Step 2: from block 3 up to block 7. -/
theorem step_2 (g : ℕ → EReal) (r : Fin 512) (l : Fin 128)
    (a : FVec Ideal S512x128 .f32) (i : IVec S512x128 32) (v0 v1 v2 v3 v4 : Vec Ideal S512x128 .f32)
    (hr : Run g 3 (a (ix2 r l)) (i (ix2 r l)))
    (h0 : Holds g r l 3 v0) (h1 : Holds g r l 4 v1) (h2 : Holds g r l 5 v2) (h3 : Holds g r l 6 v3) (h4 : Holds g r l 7 v4) :
    Run g 8 (k0_pay23 a v0 v1 v2 v3 v4 (ix2 r l)) (k0_pay24 a i v0 v1 v2 v3 v4 (ix2 r l)) := by
  unfold Holds at *
  obtain ⟨ha, hi⟩ := hr
  constructor
  · unfold_payloads
    pointwise
    simp only [runMax_succ g 7, runMax_succ g 6, runMax_succ g 5, runMax_succ g 4, runMax_succ g 3, h0, h1, h2, h3, h4, ha]
  · unfold_payloads
    pointwise
    simp only [runMax_succ g 7, runMax_succ g 6, runMax_succ g 5, runMax_succ g 4, runMax_succ g 3, runWord_succ g 7, runWord_succ g 6, runWord_succ g 5, runWord_succ g 4, runWord_succ g 3, h0, h1, h2, h3, h4, ha, hi]
    rfl

/-- Step 3: from block 8 up to block 12. -/
theorem step_3 (g : ℕ → EReal) (r : Fin 512) (l : Fin 128)
    (a : FVec Ideal S512x128 .f32) (i : IVec S512x128 32) (v0 v1 v2 v3 v4 : Vec Ideal S512x128 .f32)
    (hr : Run g 8 (a (ix2 r l)) (i (ix2 r l)))
    (h0 : Holds g r l 8 v0) (h1 : Holds g r l 9 v1) (h2 : Holds g r l 10 v2) (h3 : Holds g r l 11 v3) (h4 : Holds g r l 12 v4) :
    Run g 13 (k0_pay36 a v0 v1 v2 v3 v4 (ix2 r l)) (k0_pay37 a i v0 v1 v2 v3 v4 (ix2 r l)) := by
  unfold Holds at *
  obtain ⟨ha, hi⟩ := hr
  constructor
  · unfold_payloads
    pointwise
    simp only [runMax_succ g 12, runMax_succ g 11, runMax_succ g 10, runMax_succ g 9, runMax_succ g 8, h0, h1, h2, h3, h4, ha]
  · unfold_payloads
    pointwise
    simp only [runMax_succ g 12, runMax_succ g 11, runMax_succ g 10, runMax_succ g 9, runMax_succ g 8, runWord_succ g 12, runWord_succ g 11, runWord_succ g 10, runWord_succ g 9, runWord_succ g 8, h0, h1, h2, h3, h4, ha, hi]
    rfl

/-- Step 4: from block 13 up to block 18. -/
theorem step_4 (g : ℕ → EReal) (r : Fin 512) (l : Fin 128)
    (a : FVec Ideal S512x128 .f32) (i : IVec S512x128 32) (v0 v1 v2 v3 v4 v5 : Vec Ideal S512x128 .f32)
    (hr : Run g 13 (a (ix2 r l)) (i (ix2 r l)))
    (h0 : Holds g r l 13 v0) (h1 : Holds g r l 14 v1) (h2 : Holds g r l 15 v2) (h3 : Holds g r l 16 v3) (h4 : Holds g r l 17 v4) (h5 : Holds g r l 18 v5) :
    Run g 19 (k0_pay50 a v0 v1 v2 v3 v4 v5 (ix2 r l)) (k0_pay51 a i v0 v1 v2 v3 v4 v5 (ix2 r l)) := by
  unfold Holds at *
  obtain ⟨ha, hi⟩ := hr
  constructor
  · unfold_payloads
    pointwise
    simp only [runMax_succ g 18, runMax_succ g 17, runMax_succ g 16, runMax_succ g 15, runMax_succ g 14, runMax_succ g 13, h0, h1, h2, h3, h4, h5, ha]
  · unfold_payloads
    pointwise
    simp only [runMax_succ g 18, runMax_succ g 17, runMax_succ g 16, runMax_succ g 15, runMax_succ g 14, runMax_succ g 13, runWord_succ g 18, runWord_succ g 17, runWord_succ g 16, runWord_succ g 15, runWord_succ g 14, runWord_succ g 13, h0, h1, h2, h3, h4, h5, ha, hi]
    rfl

/-- Step 5: from block 19 up to block 23. -/
theorem step_5 (g : ℕ → EReal) (r : Fin 512) (l : Fin 128)
    (a : FVec Ideal S512x128 .f32) (i : IVec S512x128 32) (v0 v1 v2 v3 v4 : Vec Ideal S512x128 .f32)
    (hr : Run g 19 (a (ix2 r l)) (i (ix2 r l)))
    (h0 : Holds g r l 19 v0) (h1 : Holds g r l 20 v1) (h2 : Holds g r l 21 v2) (h3 : Holds g r l 22 v3) (h4 : Holds g r l 23 v4) :
    Run g 24 (k0_pay62 a v0 v1 v2 v3 v4 (ix2 r l)) (k0_pay63 a i v0 v1 v2 v3 v4 (ix2 r l)) := by
  unfold Holds at *
  obtain ⟨ha, hi⟩ := hr
  constructor
  · unfold_payloads
    pointwise
    simp only [runMax_succ g 23, runMax_succ g 22, runMax_succ g 21, runMax_succ g 20, runMax_succ g 19, h0, h1, h2, h3, h4, ha]
  · unfold_payloads
    pointwise
    simp only [runMax_succ g 23, runMax_succ g 22, runMax_succ g 21, runMax_succ g 20, runMax_succ g 19, runWord_succ g 23, runWord_succ g 22, runWord_succ g 21, runWord_succ g 20, runWord_succ g 19, h0, h1, h2, h3, h4, ha, hi]
    rfl

/-- Step 6: from block 24 up to block 28. -/
theorem step_6 (g : ℕ → EReal) (r : Fin 512) (l : Fin 128)
    (a : FVec Ideal S512x128 .f32) (i : IVec S512x128 32) (v0 v1 v2 v3 v4 : Vec Ideal S512x128 .f32)
    (hr : Run g 24 (a (ix2 r l)) (i (ix2 r l)))
    (h0 : Holds g r l 24 v0) (h1 : Holds g r l 25 v1) (h2 : Holds g r l 26 v2) (h3 : Holds g r l 27 v3) (h4 : Holds g r l 28 v4) :
    Run g 29 (k0_pay75 a v0 v1 v2 v3 v4 (ix2 r l)) (k0_pay76 a i v0 v1 v2 v3 v4 (ix2 r l)) := by
  unfold Holds at *
  obtain ⟨ha, hi⟩ := hr
  constructor
  · unfold_payloads
    pointwise
    simp only [runMax_succ g 28, runMax_succ g 27, runMax_succ g 26, runMax_succ g 25, runMax_succ g 24, h0, h1, h2, h3, h4, ha]
  · unfold_payloads
    pointwise
    simp only [runMax_succ g 28, runMax_succ g 27, runMax_succ g 26, runMax_succ g 25, runMax_succ g 24, runWord_succ g 28, runWord_succ g 27, runWord_succ g 26, runWord_succ g 25, runWord_succ g 24, h0, h1, h2, h3, h4, ha, hi]
    rfl

/-- Step 7: from block 29 up to block 34. -/
theorem step_7 (g : ℕ → EReal) (r : Fin 512) (l : Fin 128)
    (a : FVec Ideal S512x128 .f32) (i : IVec S512x128 32) (v0 v1 v2 v3 v4 v5 : Vec Ideal S512x128 .f32)
    (hr : Run g 29 (a (ix2 r l)) (i (ix2 r l)))
    (h0 : Holds g r l 29 v0) (h1 : Holds g r l 30 v1) (h2 : Holds g r l 31 v2) (h3 : Holds g r l 32 v3) (h4 : Holds g r l 33 v4) (h5 : Holds g r l 34 v5) :
    Run g 35 (k0_pay89 a v0 v1 v2 v3 v4 v5 (ix2 r l)) (k0_pay90 a i v0 v1 v2 v3 v4 v5 (ix2 r l)) := by
  unfold Holds at *
  obtain ⟨ha, hi⟩ := hr
  constructor
  · unfold_payloads
    pointwise
    simp only [runMax_succ g 34, runMax_succ g 33, runMax_succ g 32, runMax_succ g 31, runMax_succ g 30, runMax_succ g 29, h0, h1, h2, h3, h4, h5, ha]
  · unfold_payloads
    pointwise
    simp only [runMax_succ g 34, runMax_succ g 33, runMax_succ g 32, runMax_succ g 31, runMax_succ g 30, runMax_succ g 29, runWord_succ g 34, runWord_succ g 33, runWord_succ g 32, runWord_succ g 31, runWord_succ g 30, runWord_succ g 29, h0, h1, h2, h3, h4, h5, ha, hi]
    rfl

/-- Step 8: from block 35 up to block 39. -/
theorem step_8 (g : ℕ → EReal) (r : Fin 512) (l : Fin 128)
    (a : FVec Ideal S512x128 .f32) (i : IVec S512x128 32) (v0 v1 v2 v3 v4 : Vec Ideal S512x128 .f32)
    (hr : Run g 35 (a (ix2 r l)) (i (ix2 r l)))
    (h0 : Holds g r l 35 v0) (h1 : Holds g r l 36 v1) (h2 : Holds g r l 37 v2) (h3 : Holds g r l 38 v3) (h4 : Holds g r l 39 v4) :
    Run g 40 (k0_pay101 a v0 v1 v2 v3 v4 (ix2 r l)) (k0_pay102 a i v0 v1 v2 v3 v4 (ix2 r l)) := by
  unfold Holds at *
  obtain ⟨ha, hi⟩ := hr
  constructor
  · unfold_payloads
    pointwise
    simp only [runMax_succ g 39, runMax_succ g 38, runMax_succ g 37, runMax_succ g 36, runMax_succ g 35, h0, h1, h2, h3, h4, ha]
  · unfold_payloads
    pointwise
    simp only [runMax_succ g 39, runMax_succ g 38, runMax_succ g 37, runMax_succ g 36, runMax_succ g 35, runWord_succ g 39, runWord_succ g 38, runWord_succ g 37, runWord_succ g 36, runWord_succ g 35, h0, h1, h2, h3, h4, ha, hi]
    rfl

/-- Step 9: from block 40 up to block 44. -/
theorem step_9 (g : ℕ → EReal) (r : Fin 512) (l : Fin 128)
    (a : FVec Ideal S512x128 .f32) (i : IVec S512x128 32) (v0 v1 v2 v3 v4 : Vec Ideal S512x128 .f32)
    (hr : Run g 40 (a (ix2 r l)) (i (ix2 r l)))
    (h0 : Holds g r l 40 v0) (h1 : Holds g r l 41 v1) (h2 : Holds g r l 42 v2) (h3 : Holds g r l 43 v3) (h4 : Holds g r l 44 v4) :
    Run g 45 (k0_pay114 a v0 v1 v2 v3 v4 (ix2 r l)) (k0_pay115 a i v0 v1 v2 v3 v4 (ix2 r l)) := by
  unfold Holds at *
  obtain ⟨ha, hi⟩ := hr
  constructor
  · unfold_payloads
    pointwise
    simp only [runMax_succ g 44, runMax_succ g 43, runMax_succ g 42, runMax_succ g 41, runMax_succ g 40, h0, h1, h2, h3, h4, ha]
  · unfold_payloads
    pointwise
    simp only [runMax_succ g 44, runMax_succ g 43, runMax_succ g 42, runMax_succ g 41, runMax_succ g 40, runWord_succ g 44, runWord_succ g 43, runWord_succ g 42, runWord_succ g 41, runWord_succ g 40, h0, h1, h2, h3, h4, ha, hi]
    rfl

/-- Step 10: from block 45 up to block 50. -/
theorem step_10 (g : ℕ → EReal) (r : Fin 512) (l : Fin 128)
    (a : FVec Ideal S512x128 .f32) (i : IVec S512x128 32) (v0 v1 v2 v3 v4 v5 : Vec Ideal S512x128 .f32)
    (hr : Run g 45 (a (ix2 r l)) (i (ix2 r l)))
    (h0 : Holds g r l 45 v0) (h1 : Holds g r l 46 v1) (h2 : Holds g r l 47 v2) (h3 : Holds g r l 48 v3) (h4 : Holds g r l 49 v4) (h5 : Holds g r l 50 v5) :
    Run g 51 (k0_pay128 a v0 v1 v2 v3 v4 v5 (ix2 r l)) (k0_pay129 a i v0 v1 v2 v3 v4 v5 (ix2 r l)) := by
  unfold Holds at *
  obtain ⟨ha, hi⟩ := hr
  constructor
  · unfold_payloads
    pointwise
    simp only [runMax_succ g 50, runMax_succ g 49, runMax_succ g 48, runMax_succ g 47, runMax_succ g 46, runMax_succ g 45, h0, h1, h2, h3, h4, h5, ha]
  · unfold_payloads
    pointwise
    simp only [runMax_succ g 50, runMax_succ g 49, runMax_succ g 48, runMax_succ g 47, runMax_succ g 46, runMax_succ g 45, runWord_succ g 50, runWord_succ g 49, runWord_succ g 48, runWord_succ g 47, runWord_succ g 46, runWord_succ g 45, h0, h1, h2, h3, h4, h5, ha, hi]
    rfl

/-- Step 11: from block 51 up to block 55. -/
theorem step_11 (g : ℕ → EReal) (r : Fin 512) (l : Fin 128)
    (a : FVec Ideal S512x128 .f32) (i : IVec S512x128 32) (v0 v1 v2 v3 v4 : Vec Ideal S512x128 .f32)
    (hr : Run g 51 (a (ix2 r l)) (i (ix2 r l)))
    (h0 : Holds g r l 51 v0) (h1 : Holds g r l 52 v1) (h2 : Holds g r l 53 v2) (h3 : Holds g r l 54 v3) (h4 : Holds g r l 55 v4) :
    Run g 56 (k0_pay140 a v0 v1 v2 v3 v4 (ix2 r l)) (k0_pay141 a i v0 v1 v2 v3 v4 (ix2 r l)) := by
  unfold Holds at *
  obtain ⟨ha, hi⟩ := hr
  constructor
  · unfold_payloads
    pointwise
    simp only [runMax_succ g 55, runMax_succ g 54, runMax_succ g 53, runMax_succ g 52, runMax_succ g 51, h0, h1, h2, h3, h4, ha]
  · unfold_payloads
    pointwise
    simp only [runMax_succ g 55, runMax_succ g 54, runMax_succ g 53, runMax_succ g 52, runMax_succ g 51, runWord_succ g 55, runWord_succ g 54, runWord_succ g 53, runWord_succ g 52, runWord_succ g 51, h0, h1, h2, h3, h4, ha, hi]
    rfl

/-- Step 12: from block 56 up to block 60. -/
theorem step_12 (g : ℕ → EReal) (r : Fin 512) (l : Fin 128)
    (a : FVec Ideal S512x128 .f32) (i : IVec S512x128 32) (v0 v1 v2 v3 v4 : Vec Ideal S512x128 .f32)
    (hr : Run g 56 (a (ix2 r l)) (i (ix2 r l)))
    (h0 : Holds g r l 56 v0) (h1 : Holds g r l 57 v1) (h2 : Holds g r l 58 v2) (h3 : Holds g r l 59 v3) (h4 : Holds g r l 60 v4) :
    Run g 61 (k0_pay153 a v0 v1 v2 v3 v4 (ix2 r l)) (k0_pay154 a i v0 v1 v2 v3 v4 (ix2 r l)) := by
  unfold Holds at *
  obtain ⟨ha, hi⟩ := hr
  constructor
  · unfold_payloads
    pointwise
    simp only [runMax_succ g 60, runMax_succ g 59, runMax_succ g 58, runMax_succ g 57, runMax_succ g 56, h0, h1, h2, h3, h4, ha]
  · unfold_payloads
    pointwise
    simp only [runMax_succ g 60, runMax_succ g 59, runMax_succ g 58, runMax_succ g 57, runMax_succ g 56, runWord_succ g 60, runWord_succ g 59, runWord_succ g 58, runWord_succ g 57, runWord_succ g 56, h0, h1, h2, h3, h4, ha, hi]
    rfl

/-- The last step: blocks 61 to 63, the maximum over the lanes, and the smallest index among the lanes that hold it.
On a row `s` of similarities it returns the first index at which the row's maximum stands. -/
theorem last_step (s : Fin 8192 → EReal) (K : Fin 8192) (hK : IsFirstMax s K) (r : Fin 512)
    (a : FVec Ideal S512x128 .f32) (i : IVec S512x128 32) (v0 v1 v2 : Vec Ideal S512x128 .f32)
    (hr : ∀ l, Run (lane s l) 61 (a (ix2 r l)) (i (ix2 r l)))
    (h0 : ∀ l, Holds (lane s l) r l 61 v0) (h1 : ∀ l, Holds (lane s l) r l 62 v1) (h2 : ∀ l, Holds (lane s l) r l 63 v2) :
    k0_pay1 a i v0 v1 v2 (ix2 r 0) = BitVec.ofNat 32 K := by
  unfold Holds at *
  rw [← lanes_argmax s K hK (fun l => runMax (lane s l) 64) (fun l => runWord (lane s l) 64) (fun l => ⟨rfl, rfl⟩)]
  unfold_payloads
  pointwise
  simp only [start_eq_bot, runMax_succ _ 63, runMax_succ _ 62, runMax_succ _ 61, runWord_succ _ 63, runWord_succ _ 62,
    runWord_succ _ 61, h0, h1, h2, fun l => (hr l).1, fun l => (hr l).2]

end Cert.Parts
-- ==== Proof.Block.lean ====
/-
  One block of the kernel, its pieces taken one at a time: what a slab of 512 similarities holds, what the blocks of 128
  read back from the slabs stored so far hold, and what the loads of the features and of the normalised
  prototypes read. The two cases of the body (the first point, which normalises the prototypes, and the others,
  which find them there) use the same statements.
-/
module

public import proofs.«01_k».proof.Proof.Gen.KernelIdeal.Skeleton
public import Idealize.ShloMosaic.Lib.Pipeline.ValueKit.Tiles
public import Idealize.ShloMosaic.Lib.Pipeline.FrameBody
public import Idealize.ShloMosaic.Lib.WholeRead
public import proofs.«01_k».proof.Proof.Parts

@[expose] public section

set_option maxRecDepth 16384

noncomputable section

namespace Cert.Block

open Cert.KernelIdeal Cert.KernelIdeal.Gen Cert.Fold Cert.Parts
open Idealize.ShloMosaic Idealize.ShloMosaic.TcCoe

/-- The similarities of a block of 512 rows `x` to the 8192 unit rows `P`: entry `(a, b)` is the product of row `a`, made of
length one, and row `b`. -/
def G (x : Vec Ideal S512x256 .f32) (P : Fin 8192 → Fin 256 → EReal) : Vec Ideal S512x8192 .f32 := fun y =>
  ∑ k : Fin 256, hat x (y 0) k * P (y 1) k

/-- The rows of a stored table of prototypes. -/
def rows (x : Vec Ideal S8192x256 .f32) (b : Fin 8192) (k : Fin 256) : EReal := x (ix2 b k)

/-! ### The payloads, entry by entry -/

/-- The block's features made of length one. -/
theorem feat_apply (v : Vec Ideal S512x256 .f32) (a : Fin 512) (k : Fin 256) : k0_pay3 v (ix2 a k) = hat v a k := by
  unfold_payloads
  pointwise [hat]

/-- The prototypes made of length one. -/
theorem proto_apply (v : Vec Ideal S8192x256 .f32) (b : Fin 8192) (k : Fin 256) : k0_pay2 v (ix2 b k) = hat v b k := by
  unfold_payloads
  pointwise [hat]

/-- Entry `(a, b)` of `pay` is the product of row `a` of `v` and row `b` of `w`. -/
def Products (pay : Vec Ideal S512x512 .f32) (v w : Vec Ideal S512x256 .f32) : Prop :=
  ∀ a b : Fin 512, pay (ix2 a b) = ∑ k : Fin 256, (v (ix2 a k) : EReal) * w (ix2 b k)

/-- The first slab holds the products of the rows (the features made of length one). -/
theorem prod_1 (v w : Vec Ideal S512x256 .f32) : Products (k0_pay5 v w) (k0_pay3 v) w := by
  intro a b
  unfold k0_pay5
  pointwise

/-- The second slab holds the products of the rows. -/
theorem prod_2 (v w : Vec Ideal S512x256 .f32) : Products (k0_pay15 v w) v w := by
  intro a b
  unfold k0_pay15
  pointwise

/-- The third slab holds the products of the rows. -/
theorem prod_3 (v w : Vec Ideal S512x256 .f32) : Products (k0_pay25 v w) v w := by
  intro a b
  unfold k0_pay25
  pointwise

/-- The fourth slab holds the products of the rows. -/
theorem prod_4 (v w : Vec Ideal S512x256 .f32) : Products (k0_pay34 v w) v w := by
  intro a b
  unfold k0_pay34
  pointwise

/-- The fifth slab holds the products of the rows. -/
theorem prod_5 (v w : Vec Ideal S512x256 .f32) : Products (k0_pay44 v w) v w := by
  intro a b
  unfold k0_pay44
  pointwise

/-- The sixth slab holds the products of the rows. -/
theorem prod_6 (v w : Vec Ideal S512x256 .f32) : Products (k0_pay54 v w) v w := by
  intro a b
  unfold k0_pay54
  pointwise

/-- The seventh slab holds the products of the rows. -/
theorem prod_7 (v w : Vec Ideal S512x256 .f32) : Products (k0_pay64 v w) v w := by
  intro a b
  unfold k0_pay64
  pointwise

/-- The eighth slab holds the products of the rows. -/
theorem prod_8 (v w : Vec Ideal S512x256 .f32) : Products (k0_pay73 v w) v w := by
  intro a b
  unfold k0_pay73
  pointwise

/-- The ninth slab holds the products of the rows. -/
theorem prod_9 (v w : Vec Ideal S512x256 .f32) : Products (k0_pay83 v w) v w := by
  intro a b
  unfold k0_pay83
  pointwise

/-- The tenth slab holds the products of the rows. -/
theorem prod_10 (v w : Vec Ideal S512x256 .f32) : Products (k0_pay93 v w) v w := by
  intro a b
  unfold k0_pay93
  pointwise

/-- The eleventh slab holds the products of the rows. -/
theorem prod_11 (v w : Vec Ideal S512x256 .f32) : Products (k0_pay103 v w) v w := by
  intro a b
  unfold k0_pay103
  pointwise

/-- The twelfth slab holds the products of the rows. -/
theorem prod_12 (v w : Vec Ideal S512x256 .f32) : Products (k0_pay112 v w) v w := by
  intro a b
  unfold k0_pay112
  pointwise

/-- The thirteenth slab holds the products of the rows. -/
theorem prod_13 (v w : Vec Ideal S512x256 .f32) : Products (k0_pay122 v w) v w := by
  intro a b
  unfold k0_pay122
  pointwise

/-- The fourteenth slab holds the products of the rows. -/
theorem prod_14 (v w : Vec Ideal S512x256 .f32) : Products (k0_pay132 v w) v w := by
  intro a b
  unfold k0_pay132
  pointwise

/-- The fifteenth slab holds the products of the rows. -/
theorem prod_15 (v w : Vec Ideal S512x256 .f32) : Products (k0_pay142 v w) v w := by
  intro a b
  unfold k0_pay142
  pointwise

/-- The sixteenth slab holds the products of the rows. -/
theorem prod_16 (v w : Vec Ideal S512x256 .f32) : Products (k0_pay151 v w) v w := by
  intro a b
  unfold k0_pay151
  pointwise

/-! ### Loads -/

/-- The features loaded whole, made of length one, are the rows of the staged block made of length one. -/
theorem feat_load (arg1 : Memref sig .tc .vmem S512x256 .f32) (harg1 : arg1.IsWhole) (x0 : Vec Ideal S512x256 .f32)
    (inb : ∀ i, (![0, 0] : Fin 2 → ℕ) i + S512x256.size i ≤ S512x256.size i) (a : Fin 512) (k : Fin 256) :
    k0_pay3 (View.readAt (Elt Ideal) arg1.view (Rect.unit (s := S512x256) ![0, 0] S512x256.size inb).toLoadRect (harg1.unread x0)) (ix2 a k)
      = hat x0 a k := by
  rw [feat_apply]
  congr 1
  funext y
  rw [harg1.readAt_unread]
  congr 1
  funext i
  apply Fin.ext
  have := Rect.idx_unit_val (s := S512x256) ![0, 0] S512x256.size inb y i
  fin_cases i <;> simpa using this

/-- A load of 512 rows of the stored prototypes, from row `o` on. -/
theorem rows_load (arg5 : Memref sig .tc .vmem S8192x256 .f32) (harg5 : arg5.IsWhole) (xs : Vec Ideal S8192x256 .f32) (o : ℕ)
    (inb : ∀ i, (![o, 0] : Fin 2 → ℕ) i + S512x256.size i ≤ S8192x256.size i) (b : Fin 512) (hb : o + b < 8192) (k : Fin 256) :
    View.readAt (Elt Ideal) arg5.view (Rect.unit (s := S8192x256) ![o, 0] S512x256.size inb).toLoadRect (harg5.unread xs) (ix2 b k)
      = rows xs ⟨o + b, hb⟩ k := by
  rw [harg5.readAt_unread]
  unfold rows
  congr 1
  funext i
  apply Fin.ext
  have := Rect.idx_unit_val (s := S8192x256) ![o, 0] S512x256.size inb (ix2 b k) i
  fin_cases i <;> simpa using this

/-- The table of prototypes stored whole, made of length one, as one piece: the rows of the argument made of length one. -/
theorem proto_canon (arg2 : Memref sig .tc .vmem S8192x256 .f32) (harg2 : arg2.IsWhole) (x1 : Vec Ideal S8192x256 .f32)
    (inb inb' : ∀ i, (![0, 0] : Fin 2 → ℕ) i + S8192x256.size i ≤ S8192x256.size i) (b : Fin 8192) (k : Fin 256) :
    View.canon [(⟨Rect.unit (s := S8192x256) ![0, 0] S8192x256.size inb,
        k0_pay2 (View.readAt (Elt Ideal) arg2.view (Rect.unit (s := S8192x256) ![0, 0] S8192x256.size inb').toLoadRect (harg2.unread x1))⟩ :
          View.Piece (Elt Ideal) S8192x256 .f32)] (ix2 b k) = hat x1 b k := by
  have hz : (![0, 0] : Fin 2 → ℕ) = fun _ => 0 := by funext i; fin_cases i <;> rfl
  rw [View.canon_unit_zero hz, proto_apply]
  congr 1
  funext y
  rw [harg2.readAt_unread]
  congr 1
  funext i
  apply Fin.ext
  have := Rect.idx_unit_val (s := S8192x256) ![0, 0] S8192x256.size inb' y i
  fin_cases i <;> simpa using this

/-- A load of 512 of those rows, from row `o` on, in the point that stores them. -/
theorem proto_load (arg2 : Memref sig .tc .vmem S8192x256 .f32) (harg2 : arg2.IsWhole) (x1 : Vec Ideal S8192x256 .f32)
    (arg5 : Memref sig .tc .vmem S8192x256 .f32) (inb0 inb' : ∀ i, (![0, 0] : Fin 2 → ℕ) i + S8192x256.size i ≤ S8192x256.size i) (o : ℕ)
    (inb : ∀ i, (![o, 0] : Fin 2 → ℕ) i + S512x256.size i ≤ S8192x256.size i) (b : Fin 512) (hb : o + b < 8192) (k : Fin 256) :
    arg5.view.readCov (Val := Elt Ideal) [(⟨Rect.unit (s := S8192x256) ![0, 0] S8192x256.size inb0,
        k0_pay2 (View.readAt (Elt Ideal) arg2.view (Rect.unit (s := S8192x256) ![0, 0] S8192x256.size inb').toLoadRect (harg2.unread x1))⟩ :
          View.Piece (Elt Ideal) S8192x256 .f32)] (Rect.unit (s := S8192x256) ![o, 0] S512x256.size inb).toLoadRect (ix2 b k)
      = hat x1 ⟨o + b, hb⟩ k := by
  rw [View.readCov_eq_canon', ← proto_canon arg2 harg2 x1 inb0 inb' ⟨o + b, hb⟩ k]
  dsimp only
  congr 1
  funext i
  apply Fin.ext
  have := Rect.idx_unit_val (s := S8192x256) ![o, 0] S512x256.size inb (ix2 b k) i
  fin_cases i <;> simpa using this

/-! ### The slabs stored so far -/

/-- Slab `o ≤ column < o + 512` of products, where it holds an entry, holds the block's similarity there. -/
theorem tile (x0 : Vec Ideal S512x256 .f32) (P : Fin 8192 → Fin 256 → EReal) {pay : Vec Ideal S512x512 .f32}
    {v w : Vec Ideal S512x256 .f32} (o : ℕ) (hp : Products pay v w) (hv : ∀ a k, v (ix2 a k) = hat x0 a k)
    (hw : ∀ (b : Fin 512) (hb : o + b < 8192) k, w (ix2 b k) = P ⟨o + b, hb⟩ k) (y : S512x8192.Idx) :
    View.TileAt (Val := Elt Ideal) (S := S512x8192) (e := .f32) y ![0, o] S512x512.size pay (G x0 P y) := by
  intro x hx
  obtain ⟨a, b, rfl⟩ : ∃ (a : Fin 512) (b : Fin 512), x = ix2 a b :=
    ⟨x 0, x 1, by funext i; fin_cases i <;> rfl⟩
  have h0 : (y 0 : ℕ) = 0 + a := hx 0
  have h1 : (y 1 : ℕ) = o + b := hx 1
  have hb : o + (b : ℕ) < 8192 := h1 ▸ (y 1).isLt
  have e0 : (y 0 : Fin 512) = a := Fin.ext (h0.trans (Nat.zero_add _))
  have e1 : (y 1 : Fin 8192) = ⟨o + b, hb⟩ := Fin.ext h1
  show pay (ix2 a b) = ∑ k : Fin 256, hat x0 (y 0) k * P (y 1) k
  rw [hp a b, e0, e1]
  refine Finset.sum_congr rfl fun k _ => ?_
  rw [hv, hw b hb]
  rfl

/-- A list of stored pieces whose entries are all `T`'s and which covers the columns `o ≤ column < o + 512`. -/
def Slab (H : List (View.Piece (Elt Ideal) S512x8192 .f32)) (o : ℕ) (T : Vec Ideal S512x8192 .f32) : Prop :=
  (∀ y, View.AllAt H y (T y)) ∧ ∀ y : S512x8192.Idx, o ≤ (y 1 : ℕ) → (y 1 : ℕ) < o + 512 → ∃ p ∈ H, y ∈ p.1.set

/-- One more slab stored. -/
theorem slab_cons {T : Vec Ideal S512x8192 .f32} (o : ℕ) (inb : ∀ i, (![0, o] : Fin 2 → ℕ) i + S512x512.size i ≤ S512x8192.size i)
    (pay : Vec Ideal S512x512 .f32) (L : List (View.Piece (Elt Ideal) S512x8192 .f32))
    (h1 : ∀ y, View.TileAt (Val := Elt Ideal) (S := S512x8192) (e := .f32) y ![0, o] S512x512.size pay (T y))
    (h2 : ∀ y, View.AllAt L y (T y)) :
    Slab ((⟨Rect.unit (s := S512x8192) ![0, o] S512x512.size inb, pay⟩ : View.Piece (Elt Ideal) S512x8192 .f32) :: L) o T := by
  refine ⟨fun y => View.allAt_cons_unit _ _ _ _ _ (h1 y) (h2 y), fun y hlo hhi => ⟨_, List.mem_cons_self, ?_⟩⟩
  show y ∈ (Rect.unit (s := S512x8192) ![0, o] S512x512.size inb).set
  rw [Rect.mem_set_unit]
  intro i
  have h0 : (y 0 : ℕ) < 512 := (y 0).isLt
  fin_cases i
  · exact ⟨Nat.zero_le _, by simpa using h0⟩
  · exact ⟨hlo, hhi⟩

/-- A block of 128 columns read back from inside the slab stored last holds the similarities' block of that number. -/
theorem chunk {H : List (View.Piece (Elt Ideal) S512x8192 .f32)} {o : ℕ} {T : Vec Ideal S512x8192 .f32} (hs : Slab H o T)
    (arg3 : Memref sig .tc .vmem S512x8192 .f32) (r : Fin 512) (l : Fin 128) (c p : ℕ)
    (inb : ∀ i, (![0, p] : Fin 2 → ℕ) i + S512x128.size i ≤ S512x8192.size i)
    (hp : p = 128 * c ∧ o ≤ p ∧ p + 128 ≤ o + 512) :
    Holds (lane (fun k => T (ix2 r k)) l) r l c
      (arg3.view.readCov H (Rect.unit (s := S512x8192) ![0, p] S512x128.size inb).toLoadRect) := by
  obtain ⟨rfl, h1, h2⟩ := hp
  have hl := l.isLt
  have hin : 128 * c + 128 ≤ 8192 := inb 1
  have hi : (Rect.unit (s := S512x8192) ![0, 128 * c] S512x128.size inb).toLoadRect.idx (ix2 r l)
      = ix2 r (Fin.ofNat 8192 (128 * c + l)) := by
    funext i
    apply Fin.ext
    have := Rect.idx_unit_val (s := S512x8192) ![0, 128 * c] S512x128.size inb (ix2 r l) i
    have hm : (128 * c + (l : ℕ)) % 8192 = 128 * c + l := Nat.mod_eq_of_lt (by omega)
    fin_cases i
    · simpa using this
    · refine this.trans ?_
      show 128 * c + (l : ℕ) = (128 * c + (l : ℕ)) % 8192
      rw [hm]
  show arg3.view.readCov H (Rect.unit (s := S512x8192) ![0, 128 * c] S512x128.size inb).toLoadRect (ix2 r l) = T (ix2 r (Fin.ofNat 8192 (128 * c + l)))
  rw [View.readCov_eq_canon']
  show View.canon H ((Rect.unit (s := S512x8192) ![0, 128 * c] S512x128.size inb).toLoadRect.idx (ix2 r l)) = _
  rw [hi]
  have hm : (128 * c + (l : ℕ)) % 8192 = 128 * c + l := Nat.mod_eq_of_lt (by omega)
  refine View.canon_eq_of_allAt H _ _ (hs.2 _ ?_ ?_) (hs.1 _)
  · show o ≤ (128 * c + (l : ℕ)) % 8192
    omega
  · show (128 * c + (l : ℕ)) % 8192 < o + 512
    omega

end Cert.Block
-- ==== Proof.BlockA.lean ====
/-
  The body of the kernel at the first point, which makes the prototypes of length one and stores them before it reads them:
  what its sixteen stored slabs of similarities hold, and what its search along each row carries.
-/
module

public import proofs.«01_k».proof.Proof.Gen.KernelIdeal.Frame
public import proofs.«01_k».proof.Proof.Block

@[expose] public section

set_option maxRecDepth 16384

noncomputable section

namespace Cert.BlockA

open Cert.KernelIdeal Cert.KernelIdeal.Gen Cert.Fold Cert.Parts Cert.Block
open Idealize.ShloMosaic Idealize.ShloMosaic.TcCoe

variable (c : Dev nD) (arg1 : Memref sig .tc .vmem S512x256 .f32) (harg1 : arg1.IsWhole)
  (arg2 : Memref sig .tc .vmem S8192x256 .f32) (harg2 : arg2.IsWhole) (arg3 : Memref sig .tc .vmem S512x8192 .f32)
  (arg5 : Memref sig .tc .vmem S8192x256 .f32) (x0 : Vec Ideal S512x256 .f32) (x1 : Vec Ideal S8192x256 .f32)

/-! ### The slabs -/

/-- The slabs stored up to column 512. -/
theorem slab_1 : Slab (kernelRun0_A.sl.H2_1 c arg1 harg1 arg2 harg2 arg5 x0 x1) 0 (G x0 (hat x1)) := by
  unfold kernelRun0_A.sl.H2_1 kernelRun0_A.sl.v14 kernelRun0_A.sl.HS0_1
  exact slab_cons 0 _ _ _ (fun y => tile x0 (hat x1) 0 (prod_1 _ _) (fun a k => feat_load arg1 harg1 x0 _ a k)
    (fun b hb k => proto_load arg2 harg2 x1 arg5 _ _ _ _ b hb k) y) (fun y => View.allAt_nil _ _)

/-- The slabs stored up to column 1024. -/
theorem slab_2 : Slab (kernelRun0_A.sl.H2_2 c arg1 harg1 arg2 harg2 arg5 x0 x1) 512 (G x0 (hat x1)) := by
  unfold kernelRun0_A.sl.H2_2 kernelRun0_A.sl.r kernelRun0_A.sl.v41 kernelRun0_A.sl.HS0_1
  exact slab_cons 512 _ _ _ (fun y => tile x0 (hat x1) 512 (prod_2 _ _) (fun a k => feat_load arg1 harg1 x0 _ a k)
    (fun b hb k => proto_load arg2 harg2 x1 arg5 _ _ _ _ b hb k) y) ((slab_1 c arg1 harg1 arg2 harg2 arg5 x0 x1).1)

/-- The slabs stored up to column 1536. -/
theorem slab_3 : Slab (kernelRun0_A.sl.H2_3 c arg1 harg1 arg2 harg2 arg5 x0 x1) 1024 (G x0 (hat x1)) := by
  unfold kernelRun0_A.sl.H2_3 kernelRun0_A.sl.r_5 kernelRun0_A.sl.r kernelRun0_A.sl.v68 kernelRun0_A.sl.HS0_1
  exact slab_cons 1024 _ _ _ (fun y => tile x0 (hat x1) 1024 (prod_3 _ _) (fun a k => feat_load arg1 harg1 x0 _ a k)
    (fun b hb k => proto_load arg2 harg2 x1 arg5 _ _ _ _ b hb k) y) ((slab_2 c arg1 harg1 arg2 harg2 arg5 x0 x1).1)

/-- The slabs stored up to column 2048. -/
theorem slab_4 : Slab (kernelRun0_A.sl.H2_4 c arg1 harg1 arg2 harg2 arg5 x0 x1) 1536 (G x0 (hat x1)) := by
  unfold kernelRun0_A.sl.H2_4 kernelRun0_A.sl.r kernelRun0_A.sl.v95 kernelRun0_A.sl.HS0_1
  exact slab_cons 1536 _ _ _ (fun y => tile x0 (hat x1) 1536 (prod_4 _ _) (fun a k => feat_load arg1 harg1 x0 _ a k)
    (fun b hb k => proto_load arg2 harg2 x1 arg5 _ _ _ _ b hb k) y) ((slab_3 c arg1 harg1 arg2 harg2 arg5 x0 x1).1)

/-- The slabs stored up to column 2560. -/
theorem slab_5 : Slab (kernelRun0_A.sl.H2_5 c arg1 harg1 arg2 harg2 arg5 x0 x1) 2048 (G x0 (hat x1)) := by
  unfold kernelRun0_A.sl.H2_5 kernelRun0_A.sl.r kernelRun0_A.sl.v122 kernelRun0_A.sl.HS0_1
  exact slab_cons 2048 _ _ _ (fun y => tile x0 (hat x1) 2048 (prod_5 _ _) (fun a k => feat_load arg1 harg1 x0 _ a k)
    (fun b hb k => proto_load arg2 harg2 x1 arg5 _ _ _ _ b hb k) y) ((slab_4 c arg1 harg1 arg2 harg2 arg5 x0 x1).1)

/-- The slabs stored up to column 3072. -/
theorem slab_6 : Slab (kernelRun0_A.sl.H2_6 c arg1 harg1 arg2 harg2 arg5 x0 x1) 2560 (G x0 (hat x1)) := by
  unfold kernelRun0_A.sl.H2_6 kernelRun0_A.sl.r kernelRun0_A.sl.v149 kernelRun0_A.sl.HS0_1
  exact slab_cons 2560 _ _ _ (fun y => tile x0 (hat x1) 2560 (prod_6 _ _) (fun a k => feat_load arg1 harg1 x0 _ a k)
    (fun b hb k => proto_load arg2 harg2 x1 arg5 _ _ _ _ b hb k) y) ((slab_5 c arg1 harg1 arg2 harg2 arg5 x0 x1).1)

/-- The slabs stored up to column 3584. -/
theorem slab_7 : Slab (kernelRun0_A.sl.H2_7 c arg1 harg1 arg2 harg2 arg5 x0 x1) 3072 (G x0 (hat x1)) := by
  unfold kernelRun0_A.sl.H2_7 kernelRun0_A.sl.r_12 kernelRun0_A.sl.r kernelRun0_A.sl.v176 kernelRun0_A.sl.HS0_1
  exact slab_cons 3072 _ _ _ (fun y => tile x0 (hat x1) 3072 (prod_7 _ _) (fun a k => feat_load arg1 harg1 x0 _ a k)
    (fun b hb k => proto_load arg2 harg2 x1 arg5 _ _ _ _ b hb k) y) ((slab_6 c arg1 harg1 arg2 harg2 arg5 x0 x1).1)

/-- The slabs stored up to column 4096. -/
theorem slab_8 : Slab (kernelRun0_A.sl.H2_8 c arg1 harg1 arg2 harg2 arg5 x0 x1) 3584 (G x0 (hat x1)) := by
  unfold kernelRun0_A.sl.H2_8 kernelRun0_A.sl.r kernelRun0_A.sl.v203 kernelRun0_A.sl.HS0_1
  exact slab_cons 3584 _ _ _ (fun y => tile x0 (hat x1) 3584 (prod_8 _ _) (fun a k => feat_load arg1 harg1 x0 _ a k)
    (fun b hb k => proto_load arg2 harg2 x1 arg5 _ _ _ _ b hb k) y) ((slab_7 c arg1 harg1 arg2 harg2 arg5 x0 x1).1)

/-- The slabs stored up to column 4608. -/
theorem slab_9 : Slab (kernelRun0_A.sl.H2_9 c arg1 harg1 arg2 harg2 arg5 x0 x1) 4096 (G x0 (hat x1)) := by
  unfold kernelRun0_A.sl.H2_9 kernelRun0_A.sl.r kernelRun0_A.sl.v230 kernelRun0_A.sl.HS0_1
  exact slab_cons 4096 _ _ _ (fun y => tile x0 (hat x1) 4096 (prod_9 _ _) (fun a k => feat_load arg1 harg1 x0 _ a k)
    (fun b hb k => proto_load arg2 harg2 x1 arg5 _ _ _ _ b hb k) y) ((slab_8 c arg1 harg1 arg2 harg2 arg5 x0 x1).1)

/-- The slabs stored up to column 5120. -/
theorem slab_10 : Slab (kernelRun0_A.sl.H2_10 c arg1 harg1 arg2 harg2 arg5 x0 x1) 4608 (G x0 (hat x1)) := by
  unfold kernelRun0_A.sl.H2_10 kernelRun0_A.sl.r kernelRun0_A.sl.v257 kernelRun0_A.sl.HS0_1
  exact slab_cons 4608 _ _ _ (fun y => tile x0 (hat x1) 4608 (prod_10 _ _) (fun a k => feat_load arg1 harg1 x0 _ a k)
    (fun b hb k => proto_load arg2 harg2 x1 arg5 _ _ _ _ b hb k) y) ((slab_9 c arg1 harg1 arg2 harg2 arg5 x0 x1).1)

/-- The slabs stored up to column 5632. -/
theorem slab_11 : Slab (kernelRun0_A.sl.H2_11 c arg1 harg1 arg2 harg2 arg5 x0 x1) 5120 (G x0 (hat x1)) := by
  unfold kernelRun0_A.sl.H2_11 kernelRun0_A.sl.r_19 kernelRun0_A.sl.r kernelRun0_A.sl.v284 kernelRun0_A.sl.HS0_1
  exact slab_cons 5120 _ _ _ (fun y => tile x0 (hat x1) 5120 (prod_11 _ _) (fun a k => feat_load arg1 harg1 x0 _ a k)
    (fun b hb k => proto_load arg2 harg2 x1 arg5 _ _ _ _ b hb k) y) ((slab_10 c arg1 harg1 arg2 harg2 arg5 x0 x1).1)

/-- The slabs stored up to column 6144. -/
theorem slab_12 : Slab (kernelRun0_A.sl.H2_12 c arg1 harg1 arg2 harg2 arg5 x0 x1) 5632 (G x0 (hat x1)) := by
  unfold kernelRun0_A.sl.H2_12 kernelRun0_A.sl.r kernelRun0_A.sl.v311 kernelRun0_A.sl.HS0_1
  exact slab_cons 5632 _ _ _ (fun y => tile x0 (hat x1) 5632 (prod_12 _ _) (fun a k => feat_load arg1 harg1 x0 _ a k)
    (fun b hb k => proto_load arg2 harg2 x1 arg5 _ _ _ _ b hb k) y) ((slab_11 c arg1 harg1 arg2 harg2 arg5 x0 x1).1)

/-- The slabs stored up to column 6656. -/
theorem slab_13 : Slab (kernelRun0_A.sl.H2_13 c arg1 harg1 arg2 harg2 arg5 x0 x1) 6144 (G x0 (hat x1)) := by
  unfold kernelRun0_A.sl.H2_13 kernelRun0_A.sl.r kernelRun0_A.sl.v338 kernelRun0_A.sl.HS0_1
  exact slab_cons 6144 _ _ _ (fun y => tile x0 (hat x1) 6144 (prod_13 _ _) (fun a k => feat_load arg1 harg1 x0 _ a k)
    (fun b hb k => proto_load arg2 harg2 x1 arg5 _ _ _ _ b hb k) y) ((slab_12 c arg1 harg1 arg2 harg2 arg5 x0 x1).1)

/-- The slabs stored up to column 7168. -/
theorem slab_14 : Slab (kernelRun0_A.sl.H2_14 c arg1 harg1 arg2 harg2 arg5 x0 x1) 6656 (G x0 (hat x1)) := by
  unfold kernelRun0_A.sl.H2_14 kernelRun0_A.sl.r kernelRun0_A.sl.v365 kernelRun0_A.sl.HS0_1
  exact slab_cons 6656 _ _ _ (fun y => tile x0 (hat x1) 6656 (prod_14 _ _) (fun a k => feat_load arg1 harg1 x0 _ a k)
    (fun b hb k => proto_load arg2 harg2 x1 arg5 _ _ _ _ b hb k) y) ((slab_13 c arg1 harg1 arg2 harg2 arg5 x0 x1).1)

/-- The slabs stored up to column 7680. -/
theorem slab_15 : Slab (kernelRun0_A.sl.H2_15 c arg1 harg1 arg2 harg2 arg5 x0 x1) 7168 (G x0 (hat x1)) := by
  unfold kernelRun0_A.sl.H2_15 kernelRun0_A.sl.r_26 kernelRun0_A.sl.r kernelRun0_A.sl.v392 kernelRun0_A.sl.HS0_1
  exact slab_cons 7168 _ _ _ (fun y => tile x0 (hat x1) 7168 (prod_15 _ _) (fun a k => feat_load arg1 harg1 x0 _ a k)
    (fun b hb k => proto_load arg2 harg2 x1 arg5 _ _ _ _ b hb k) y) ((slab_14 c arg1 harg1 arg2 harg2 arg5 x0 x1).1)

/-- The slabs stored up to column 8192. -/
theorem slab_16 : Slab (kernelRun0_A.sl.H2_16 c arg1 harg1 arg2 harg2 arg5 x0 x1) 7680 (G x0 (hat x1)) := by
  unfold kernelRun0_A.sl.H2_16 kernelRun0_A.sl.r kernelRun0_A.sl.v419 kernelRun0_A.sl.HS0_1
  exact slab_cons 7680 _ _ _ (fun y => tile x0 (hat x1) 7680 (prod_16 _ _) (fun a k => feat_load arg1 harg1 x0 _ a k)
    (fun b hb k => proto_load arg2 harg2 x1 arg5 _ _ _ _ b hb k) y) ((slab_15 c arg1 harg1 arg2 harg2 arg5 x0 x1).1)

/-! ### The search along a row -/

/-- The lanes after the blocks 0 to 2. -/
theorem run_1 (r : Fin 512) (l : Fin 128) :
    Run (lane (fun k => G x0 (hat x1) (ix2 r k)) l) 3 (kernelRun0_A.sl.r_1 c arg1 harg1 arg2 harg2 arg3 arg5 x0 x1 (ix2 r l)) (kernelRun0_A.sl.r_2 c arg1 harg1 arg2 harg2 arg3 arg5 x0 x1 (ix2 r l)) := by
  unfold kernelRun0_A.sl.r_1 kernelRun0_A.sl.r_2
  exact step_1 _ r l _ _ _
    (chunk (slab_1 c arg1 harg1 arg2 harg2 arg5 x0 x1) arg3 r l 0 0 _ (by decide))
    (chunk (slab_1 c arg1 harg1 arg2 harg2 arg5 x0 x1) arg3 r l 1 128 _ (by decide))
    (chunk (slab_1 c arg1 harg1 arg2 harg2 arg5 x0 x1) arg3 r l 2 256 _ (by decide))

/-- The lanes after the blocks 0 to 7. -/
theorem run_2 (r : Fin 512) (l : Fin 128) :
    Run (lane (fun k => G x0 (hat x1) (ix2 r k)) l) 8 (kernelRun0_A.sl.r_3 c arg1 harg1 arg2 harg2 arg3 arg5 x0 x1 (ix2 r l)) (kernelRun0_A.sl.r_4 c arg1 harg1 arg2 harg2 arg3 arg5 x0 x1 (ix2 r l)) := by
  unfold kernelRun0_A.sl.r_3 kernelRun0_A.sl.r_4
  exact step_2 _ r l _ _ _ _ _ _ _ (run_1 c arg1 harg1 arg2 harg2 arg3 arg5 x0 x1 r l)
    (chunk (slab_1 c arg1 harg1 arg2 harg2 arg5 x0 x1) arg3 r l 3 384 _ (by decide))
    (chunk (slab_2 c arg1 harg1 arg2 harg2 arg5 x0 x1) arg3 r l 4 512 _ (by decide))
    (chunk (slab_2 c arg1 harg1 arg2 harg2 arg5 x0 x1) arg3 r l 5 640 _ (by decide))
    (chunk (slab_2 c arg1 harg1 arg2 harg2 arg5 x0 x1) arg3 r l 6 768 _ (by decide))
    (chunk (slab_2 c arg1 harg1 arg2 harg2 arg5 x0 x1) arg3 r l 7 896 _ (by decide))

/-- The lanes after the blocks 0 to 12. -/
theorem run_3 (r : Fin 512) (l : Fin 128) :
    Run (lane (fun k => G x0 (hat x1) (ix2 r k)) l) 13 (kernelRun0_A.sl.r_6 c arg1 harg1 arg2 harg2 arg3 arg5 x0 x1 (ix2 r l)) (kernelRun0_A.sl.r_7 c arg1 harg1 arg2 harg2 arg3 arg5 x0 x1 (ix2 r l)) := by
  unfold kernelRun0_A.sl.r_6 kernelRun0_A.sl.r_7
  exact step_3 _ r l _ _ _ _ _ _ _ (run_2 c arg1 harg1 arg2 harg2 arg3 arg5 x0 x1 r l)
    (chunk (slab_3 c arg1 harg1 arg2 harg2 arg5 x0 x1) arg3 r l 8 1024 _ (by decide))
    (chunk (slab_3 c arg1 harg1 arg2 harg2 arg5 x0 x1) arg3 r l 9 1152 _ (by decide))
    (chunk (slab_3 c arg1 harg1 arg2 harg2 arg5 x0 x1) arg3 r l 10 1280 _ (by decide))
    (chunk (slab_3 c arg1 harg1 arg2 harg2 arg5 x0 x1) arg3 r l 11 1408 _ (by decide))
    (chunk (slab_4 c arg1 harg1 arg2 harg2 arg5 x0 x1) arg3 r l 12 1536 _ (by decide))

/-- The lanes after the blocks 0 to 18. -/
theorem run_4 (r : Fin 512) (l : Fin 128) :
    Run (lane (fun k => G x0 (hat x1) (ix2 r k)) l) 19 (kernelRun0_A.sl.r_8 c arg1 harg1 arg2 harg2 arg3 arg5 x0 x1 (ix2 r l)) (kernelRun0_A.sl.r_9 c arg1 harg1 arg2 harg2 arg3 arg5 x0 x1 (ix2 r l)) := by
  unfold kernelRun0_A.sl.r_8 kernelRun0_A.sl.r_9
  exact step_4 _ r l _ _ _ _ _ _ _ _ (run_3 c arg1 harg1 arg2 harg2 arg3 arg5 x0 x1 r l)
    (chunk (slab_4 c arg1 harg1 arg2 harg2 arg5 x0 x1) arg3 r l 13 1664 _ (by decide))
    (chunk (slab_4 c arg1 harg1 arg2 harg2 arg5 x0 x1) arg3 r l 14 1792 _ (by decide))
    (chunk (slab_4 c arg1 harg1 arg2 harg2 arg5 x0 x1) arg3 r l 15 1920 _ (by decide))
    (chunk (slab_5 c arg1 harg1 arg2 harg2 arg5 x0 x1) arg3 r l 16 2048 _ (by decide))
    (chunk (slab_5 c arg1 harg1 arg2 harg2 arg5 x0 x1) arg3 r l 17 2176 _ (by decide))
    (chunk (slab_5 c arg1 harg1 arg2 harg2 arg5 x0 x1) arg3 r l 18 2304 _ (by decide))

/-- The lanes after the blocks 0 to 23. -/
theorem run_5 (r : Fin 512) (l : Fin 128) :
    Run (lane (fun k => G x0 (hat x1) (ix2 r k)) l) 24 (kernelRun0_A.sl.r_10 c arg1 harg1 arg2 harg2 arg3 arg5 x0 x1 (ix2 r l)) (kernelRun0_A.sl.r_11 c arg1 harg1 arg2 harg2 arg3 arg5 x0 x1 (ix2 r l)) := by
  unfold kernelRun0_A.sl.r_10 kernelRun0_A.sl.r_11
  exact step_5 _ r l _ _ _ _ _ _ _ (run_4 c arg1 harg1 arg2 harg2 arg3 arg5 x0 x1 r l)
    (chunk (slab_5 c arg1 harg1 arg2 harg2 arg5 x0 x1) arg3 r l 19 2432 _ (by decide))
    (chunk (slab_6 c arg1 harg1 arg2 harg2 arg5 x0 x1) arg3 r l 20 2560 _ (by decide))
    (chunk (slab_6 c arg1 harg1 arg2 harg2 arg5 x0 x1) arg3 r l 21 2688 _ (by decide))
    (chunk (slab_6 c arg1 harg1 arg2 harg2 arg5 x0 x1) arg3 r l 22 2816 _ (by decide))
    (chunk (slab_6 c arg1 harg1 arg2 harg2 arg5 x0 x1) arg3 r l 23 2944 _ (by decide))

/-- The lanes after the blocks 0 to 28. -/
theorem run_6 (r : Fin 512) (l : Fin 128) :
    Run (lane (fun k => G x0 (hat x1) (ix2 r k)) l) 29 (kernelRun0_A.sl.r_13 c arg1 harg1 arg2 harg2 arg3 arg5 x0 x1 (ix2 r l)) (kernelRun0_A.sl.r_14 c arg1 harg1 arg2 harg2 arg3 arg5 x0 x1 (ix2 r l)) := by
  unfold kernelRun0_A.sl.r_13 kernelRun0_A.sl.r_14
  exact step_6 _ r l _ _ _ _ _ _ _ (run_5 c arg1 harg1 arg2 harg2 arg3 arg5 x0 x1 r l)
    (chunk (slab_7 c arg1 harg1 arg2 harg2 arg5 x0 x1) arg3 r l 24 3072 _ (by decide))
    (chunk (slab_7 c arg1 harg1 arg2 harg2 arg5 x0 x1) arg3 r l 25 3200 _ (by decide))
    (chunk (slab_7 c arg1 harg1 arg2 harg2 arg5 x0 x1) arg3 r l 26 3328 _ (by decide))
    (chunk (slab_7 c arg1 harg1 arg2 harg2 arg5 x0 x1) arg3 r l 27 3456 _ (by decide))
    (chunk (slab_8 c arg1 harg1 arg2 harg2 arg5 x0 x1) arg3 r l 28 3584 _ (by decide))

/-- The lanes after the blocks 0 to 34. -/
theorem run_7 (r : Fin 512) (l : Fin 128) :
    Run (lane (fun k => G x0 (hat x1) (ix2 r k)) l) 35 (kernelRun0_A.sl.r_15 c arg1 harg1 arg2 harg2 arg3 arg5 x0 x1 (ix2 r l)) (kernelRun0_A.sl.r_16 c arg1 harg1 arg2 harg2 arg3 arg5 x0 x1 (ix2 r l)) := by
  unfold kernelRun0_A.sl.r_15 kernelRun0_A.sl.r_16
  exact step_7 _ r l _ _ _ _ _ _ _ _ (run_6 c arg1 harg1 arg2 harg2 arg3 arg5 x0 x1 r l)
    (chunk (slab_8 c arg1 harg1 arg2 harg2 arg5 x0 x1) arg3 r l 29 3712 _ (by decide))
    (chunk (slab_8 c arg1 harg1 arg2 harg2 arg5 x0 x1) arg3 r l 30 3840 _ (by decide))
    (chunk (slab_8 c arg1 harg1 arg2 harg2 arg5 x0 x1) arg3 r l 31 3968 _ (by decide))
    (chunk (slab_9 c arg1 harg1 arg2 harg2 arg5 x0 x1) arg3 r l 32 4096 _ (by decide))
    (chunk (slab_9 c arg1 harg1 arg2 harg2 arg5 x0 x1) arg3 r l 33 4224 _ (by decide))
    (chunk (slab_9 c arg1 harg1 arg2 harg2 arg5 x0 x1) arg3 r l 34 4352 _ (by decide))

/-- The lanes after the blocks 0 to 39. -/
theorem run_8 (r : Fin 512) (l : Fin 128) :
    Run (lane (fun k => G x0 (hat x1) (ix2 r k)) l) 40 (kernelRun0_A.sl.r_17 c arg1 harg1 arg2 harg2 arg3 arg5 x0 x1 (ix2 r l)) (kernelRun0_A.sl.r_18 c arg1 harg1 arg2 harg2 arg3 arg5 x0 x1 (ix2 r l)) := by
  unfold kernelRun0_A.sl.r_17 kernelRun0_A.sl.r_18
  exact step_8 _ r l _ _ _ _ _ _ _ (run_7 c arg1 harg1 arg2 harg2 arg3 arg5 x0 x1 r l)
    (chunk (slab_9 c arg1 harg1 arg2 harg2 arg5 x0 x1) arg3 r l 35 4480 _ (by decide))
    (chunk (slab_10 c arg1 harg1 arg2 harg2 arg5 x0 x1) arg3 r l 36 4608 _ (by decide))
    (chunk (slab_10 c arg1 harg1 arg2 harg2 arg5 x0 x1) arg3 r l 37 4736 _ (by decide))
    (chunk (slab_10 c arg1 harg1 arg2 harg2 arg5 x0 x1) arg3 r l 38 4864 _ (by decide))
    (chunk (slab_10 c arg1 harg1 arg2 harg2 arg5 x0 x1) arg3 r l 39 4992 _ (by decide))

/-- The lanes after the blocks 0 to 44. -/
theorem run_9 (r : Fin 512) (l : Fin 128) :
    Run (lane (fun k => G x0 (hat x1) (ix2 r k)) l) 45 (kernelRun0_A.sl.r_20 c arg1 harg1 arg2 harg2 arg3 arg5 x0 x1 (ix2 r l)) (kernelRun0_A.sl.r_21 c arg1 harg1 arg2 harg2 arg3 arg5 x0 x1 (ix2 r l)) := by
  unfold kernelRun0_A.sl.r_20 kernelRun0_A.sl.r_21
  exact step_9 _ r l _ _ _ _ _ _ _ (run_8 c arg1 harg1 arg2 harg2 arg3 arg5 x0 x1 r l)
    (chunk (slab_11 c arg1 harg1 arg2 harg2 arg5 x0 x1) arg3 r l 40 5120 _ (by decide))
    (chunk (slab_11 c arg1 harg1 arg2 harg2 arg5 x0 x1) arg3 r l 41 5248 _ (by decide))
    (chunk (slab_11 c arg1 harg1 arg2 harg2 arg5 x0 x1) arg3 r l 42 5376 _ (by decide))
    (chunk (slab_11 c arg1 harg1 arg2 harg2 arg5 x0 x1) arg3 r l 43 5504 _ (by decide))
    (chunk (slab_12 c arg1 harg1 arg2 harg2 arg5 x0 x1) arg3 r l 44 5632 _ (by decide))

/-- The lanes after the blocks 0 to 50. -/
theorem run_10 (r : Fin 512) (l : Fin 128) :
    Run (lane (fun k => G x0 (hat x1) (ix2 r k)) l) 51 (kernelRun0_A.sl.r_22 c arg1 harg1 arg2 harg2 arg3 arg5 x0 x1 (ix2 r l)) (kernelRun0_A.sl.r_23 c arg1 harg1 arg2 harg2 arg3 arg5 x0 x1 (ix2 r l)) := by
  unfold kernelRun0_A.sl.r_22 kernelRun0_A.sl.r_23
  exact step_10 _ r l _ _ _ _ _ _ _ _ (run_9 c arg1 harg1 arg2 harg2 arg3 arg5 x0 x1 r l)
    (chunk (slab_12 c arg1 harg1 arg2 harg2 arg5 x0 x1) arg3 r l 45 5760 _ (by decide))
    (chunk (slab_12 c arg1 harg1 arg2 harg2 arg5 x0 x1) arg3 r l 46 5888 _ (by decide))
    (chunk (slab_12 c arg1 harg1 arg2 harg2 arg5 x0 x1) arg3 r l 47 6016 _ (by decide))
    (chunk (slab_13 c arg1 harg1 arg2 harg2 arg5 x0 x1) arg3 r l 48 6144 _ (by decide))
    (chunk (slab_13 c arg1 harg1 arg2 harg2 arg5 x0 x1) arg3 r l 49 6272 _ (by decide))
    (chunk (slab_13 c arg1 harg1 arg2 harg2 arg5 x0 x1) arg3 r l 50 6400 _ (by decide))

/-- The lanes after the blocks 0 to 55. -/
theorem run_11 (r : Fin 512) (l : Fin 128) :
    Run (lane (fun k => G x0 (hat x1) (ix2 r k)) l) 56 (kernelRun0_A.sl.r_24 c arg1 harg1 arg2 harg2 arg3 arg5 x0 x1 (ix2 r l)) (kernelRun0_A.sl.r_25 c arg1 harg1 arg2 harg2 arg3 arg5 x0 x1 (ix2 r l)) := by
  unfold kernelRun0_A.sl.r_24 kernelRun0_A.sl.r_25
  exact step_11 _ r l _ _ _ _ _ _ _ (run_10 c arg1 harg1 arg2 harg2 arg3 arg5 x0 x1 r l)
    (chunk (slab_13 c arg1 harg1 arg2 harg2 arg5 x0 x1) arg3 r l 51 6528 _ (by decide))
    (chunk (slab_14 c arg1 harg1 arg2 harg2 arg5 x0 x1) arg3 r l 52 6656 _ (by decide))
    (chunk (slab_14 c arg1 harg1 arg2 harg2 arg5 x0 x1) arg3 r l 53 6784 _ (by decide))
    (chunk (slab_14 c arg1 harg1 arg2 harg2 arg5 x0 x1) arg3 r l 54 6912 _ (by decide))
    (chunk (slab_14 c arg1 harg1 arg2 harg2 arg5 x0 x1) arg3 r l 55 7040 _ (by decide))

/-- The lanes after the blocks 0 to 60. -/
theorem run_12 (r : Fin 512) (l : Fin 128) :
    Run (lane (fun k => G x0 (hat x1) (ix2 r k)) l) 61 (kernelRun0_A.sl.r_27 c arg1 harg1 arg2 harg2 arg3 arg5 x0 x1 (ix2 r l)) (kernelRun0_A.sl.r_28 c arg1 harg1 arg2 harg2 arg3 arg5 x0 x1 (ix2 r l)) := by
  unfold kernelRun0_A.sl.r_27 kernelRun0_A.sl.r_28
  exact step_12 _ r l _ _ _ _ _ _ _ (run_11 c arg1 harg1 arg2 harg2 arg3 arg5 x0 x1 r l)
    (chunk (slab_15 c arg1 harg1 arg2 harg2 arg5 x0 x1) arg3 r l 56 7168 _ (by decide))
    (chunk (slab_15 c arg1 harg1 arg2 harg2 arg5 x0 x1) arg3 r l 57 7296 _ (by decide))
    (chunk (slab_15 c arg1 harg1 arg2 harg2 arg5 x0 x1) arg3 r l 58 7424 _ (by decide))
    (chunk (slab_15 c arg1 harg1 arg2 harg2 arg5 x0 x1) arg3 r l 59 7552 _ (by decide))
    (chunk (slab_16 c arg1 harg1 arg2 harg2 arg5 x0 x1) arg3 r l 60 7680 _ (by decide))

/-- The row's index: the first at which the row's greatest similarity stands. -/
theorem index (r : Fin 512) (K : Fin 8192) (hK : IsFirstMax (fun k => G x0 (hat x1) (ix2 r k)) K) :
    k0_pay1 (kernelRun0_A.sl.r_27 c arg1 harg1 arg2 harg2 arg3 arg5 x0 x1) (kernelRun0_A.sl.r_28 c arg1 harg1 arg2 harg2 arg3 arg5 x0 x1) (kernelRun0_A.sl.v428 c arg1 harg1 arg2 harg2 arg3 arg5 x0 x1)
      (kernelRun0_A.sl.v434 c arg1 harg1 arg2 harg2 arg3 arg5 x0 x1) (kernelRun0_A.sl.v440 c arg1 harg1 arg2 harg2 arg3 arg5 x0 x1) (ix2 r 0) = BitVec.ofNat 32 K :=
  last_step _ K hK r _ _ _ _ _ (fun l => run_12 c arg1 harg1 arg2 harg2 arg3 arg5 x0 x1 r l)
    (fun l => chunk (slab_16 c arg1 harg1 arg2 harg2 arg5 x0 x1) arg3 r l 61 7808 _ (by decide))
    (fun l => chunk (slab_16 c arg1 harg1 arg2 harg2 arg5 x0 x1) arg3 r l 62 7936 _ (by decide))
    (fun l => chunk (slab_16 c arg1 harg1 arg2 harg2 arg5 x0 x1) arg3 r l 63 8064 _ (by decide))

end Cert.BlockA
-- ==== Proof.BlockB.lean ====
/-
  The body of the kernel at every point after the first, which finds the prototypes of length one where the first left them:
  what its sixteen stored slabs of similarities hold, and what its search along each row carries.
-/
module

public import proofs.«01_k».proof.Proof.Gen.KernelIdeal.Frame
public import proofs.«01_k».proof.Proof.Block

@[expose] public section

set_option maxRecDepth 16384

noncomputable section

namespace Cert.BlockB

open Cert.KernelIdeal Cert.KernelIdeal.Gen Cert.Fold Cert.Parts Cert.Block
open Idealize.ShloMosaic Idealize.ShloMosaic.TcCoe

variable (c : Dev nD) (arg1 : Memref sig .tc .vmem S512x256 .f32) (harg1 : arg1.IsWhole)
  (arg3 : Memref sig .tc .vmem S512x8192 .f32) (arg5 : Memref sig .tc .vmem S8192x256 .f32) (harg5 : arg5.IsWhole)
  (x0 : Vec Ideal S512x256 .f32) (xs0 : Vec Ideal S8192x256 .f32)

/-! ### The slabs -/

/-- The slabs stored up to column 512. -/
theorem slab_1 : Slab (kernelRun0_B.sl.H2_1 c arg1 harg1 arg5 harg5 x0 xs0) 0 (G x0 (rows xs0)) := by
  unfold kernelRun0_B.sl.H2_1
  exact slab_cons 0 _ _ _ (fun y => tile x0 (rows xs0) 0 (prod_1 _ _) (fun a k => feat_load arg1 harg1 x0 _ a k)
    (fun b hb k => rows_load arg5 harg5 xs0 _ _ b hb k) y) (fun y => View.allAt_nil _ _)

/-- The slabs stored up to column 1024. -/
theorem slab_2 : Slab (kernelRun0_B.sl.H2_2 c arg1 harg1 arg5 harg5 x0 xs0) 512 (G x0 (rows xs0)) := by
  unfold kernelRun0_B.sl.H2_2 kernelRun0_B.sl.r
  exact slab_cons 512 _ _ _ (fun y => tile x0 (rows xs0) 512 (prod_2 _ _) (fun a k => feat_load arg1 harg1 x0 _ a k)
    (fun b hb k => rows_load arg5 harg5 xs0 _ _ b hb k) y) ((slab_1 c arg1 harg1 arg5 harg5 x0 xs0).1)

/-- The slabs stored up to column 1536. -/
theorem slab_3 : Slab (kernelRun0_B.sl.H2_3 c arg1 harg1 arg5 harg5 x0 xs0) 1024 (G x0 (rows xs0)) := by
  unfold kernelRun0_B.sl.H2_3 kernelRun0_B.sl.r_5 kernelRun0_B.sl.r
  exact slab_cons 1024 _ _ _ (fun y => tile x0 (rows xs0) 1024 (prod_3 _ _) (fun a k => feat_load arg1 harg1 x0 _ a k)
    (fun b hb k => rows_load arg5 harg5 xs0 _ _ b hb k) y) ((slab_2 c arg1 harg1 arg5 harg5 x0 xs0).1)

/-- The slabs stored up to column 2048. -/
theorem slab_4 : Slab (kernelRun0_B.sl.H2_4 c arg1 harg1 arg5 harg5 x0 xs0) 1536 (G x0 (rows xs0)) := by
  unfold kernelRun0_B.sl.H2_4 kernelRun0_B.sl.r
  exact slab_cons 1536 _ _ _ (fun y => tile x0 (rows xs0) 1536 (prod_4 _ _) (fun a k => feat_load arg1 harg1 x0 _ a k)
    (fun b hb k => rows_load arg5 harg5 xs0 _ _ b hb k) y) ((slab_3 c arg1 harg1 arg5 harg5 x0 xs0).1)

/-- The slabs stored up to column 2560. -/
theorem slab_5 : Slab (kernelRun0_B.sl.H2_5 c arg1 harg1 arg5 harg5 x0 xs0) 2048 (G x0 (rows xs0)) := by
  unfold kernelRun0_B.sl.H2_5 kernelRun0_B.sl.r
  exact slab_cons 2048 _ _ _ (fun y => tile x0 (rows xs0) 2048 (prod_5 _ _) (fun a k => feat_load arg1 harg1 x0 _ a k)
    (fun b hb k => rows_load arg5 harg5 xs0 _ _ b hb k) y) ((slab_4 c arg1 harg1 arg5 harg5 x0 xs0).1)

/-- The slabs stored up to column 3072. -/
theorem slab_6 : Slab (kernelRun0_B.sl.H2_6 c arg1 harg1 arg5 harg5 x0 xs0) 2560 (G x0 (rows xs0)) := by
  unfold kernelRun0_B.sl.H2_6 kernelRun0_B.sl.r
  exact slab_cons 2560 _ _ _ (fun y => tile x0 (rows xs0) 2560 (prod_6 _ _) (fun a k => feat_load arg1 harg1 x0 _ a k)
    (fun b hb k => rows_load arg5 harg5 xs0 _ _ b hb k) y) ((slab_5 c arg1 harg1 arg5 harg5 x0 xs0).1)

/-- The slabs stored up to column 3584. -/
theorem slab_7 : Slab (kernelRun0_B.sl.H2_7 c arg1 harg1 arg5 harg5 x0 xs0) 3072 (G x0 (rows xs0)) := by
  unfold kernelRun0_B.sl.H2_7 kernelRun0_B.sl.r_12 kernelRun0_B.sl.r
  exact slab_cons 3072 _ _ _ (fun y => tile x0 (rows xs0) 3072 (prod_7 _ _) (fun a k => feat_load arg1 harg1 x0 _ a k)
    (fun b hb k => rows_load arg5 harg5 xs0 _ _ b hb k) y) ((slab_6 c arg1 harg1 arg5 harg5 x0 xs0).1)

/-- The slabs stored up to column 4096. -/
theorem slab_8 : Slab (kernelRun0_B.sl.H2_8 c arg1 harg1 arg5 harg5 x0 xs0) 3584 (G x0 (rows xs0)) := by
  unfold kernelRun0_B.sl.H2_8 kernelRun0_B.sl.r
  exact slab_cons 3584 _ _ _ (fun y => tile x0 (rows xs0) 3584 (prod_8 _ _) (fun a k => feat_load arg1 harg1 x0 _ a k)
    (fun b hb k => rows_load arg5 harg5 xs0 _ _ b hb k) y) ((slab_7 c arg1 harg1 arg5 harg5 x0 xs0).1)

/-- The slabs stored up to column 4608. -/
theorem slab_9 : Slab (kernelRun0_B.sl.H2_9 c arg1 harg1 arg5 harg5 x0 xs0) 4096 (G x0 (rows xs0)) := by
  unfold kernelRun0_B.sl.H2_9 kernelRun0_B.sl.r
  exact slab_cons 4096 _ _ _ (fun y => tile x0 (rows xs0) 4096 (prod_9 _ _) (fun a k => feat_load arg1 harg1 x0 _ a k)
    (fun b hb k => rows_load arg5 harg5 xs0 _ _ b hb k) y) ((slab_8 c arg1 harg1 arg5 harg5 x0 xs0).1)

/-- The slabs stored up to column 5120. -/
theorem slab_10 : Slab (kernelRun0_B.sl.H2_10 c arg1 harg1 arg5 harg5 x0 xs0) 4608 (G x0 (rows xs0)) := by
  unfold kernelRun0_B.sl.H2_10 kernelRun0_B.sl.r
  exact slab_cons 4608 _ _ _ (fun y => tile x0 (rows xs0) 4608 (prod_10 _ _) (fun a k => feat_load arg1 harg1 x0 _ a k)
    (fun b hb k => rows_load arg5 harg5 xs0 _ _ b hb k) y) ((slab_9 c arg1 harg1 arg5 harg5 x0 xs0).1)

/-- The slabs stored up to column 5632. -/
theorem slab_11 : Slab (kernelRun0_B.sl.H2_11 c arg1 harg1 arg5 harg5 x0 xs0) 5120 (G x0 (rows xs0)) := by
  unfold kernelRun0_B.sl.H2_11 kernelRun0_B.sl.r_19 kernelRun0_B.sl.r
  exact slab_cons 5120 _ _ _ (fun y => tile x0 (rows xs0) 5120 (prod_11 _ _) (fun a k => feat_load arg1 harg1 x0 _ a k)
    (fun b hb k => rows_load arg5 harg5 xs0 _ _ b hb k) y) ((slab_10 c arg1 harg1 arg5 harg5 x0 xs0).1)

/-- The slabs stored up to column 6144. -/
theorem slab_12 : Slab (kernelRun0_B.sl.H2_12 c arg1 harg1 arg5 harg5 x0 xs0) 5632 (G x0 (rows xs0)) := by
  unfold kernelRun0_B.sl.H2_12 kernelRun0_B.sl.r
  exact slab_cons 5632 _ _ _ (fun y => tile x0 (rows xs0) 5632 (prod_12 _ _) (fun a k => feat_load arg1 harg1 x0 _ a k)
    (fun b hb k => rows_load arg5 harg5 xs0 _ _ b hb k) y) ((slab_11 c arg1 harg1 arg5 harg5 x0 xs0).1)

/-- The slabs stored up to column 6656. -/
theorem slab_13 : Slab (kernelRun0_B.sl.H2_13 c arg1 harg1 arg5 harg5 x0 xs0) 6144 (G x0 (rows xs0)) := by
  unfold kernelRun0_B.sl.H2_13 kernelRun0_B.sl.r
  exact slab_cons 6144 _ _ _ (fun y => tile x0 (rows xs0) 6144 (prod_13 _ _) (fun a k => feat_load arg1 harg1 x0 _ a k)
    (fun b hb k => rows_load arg5 harg5 xs0 _ _ b hb k) y) ((slab_12 c arg1 harg1 arg5 harg5 x0 xs0).1)

/-- The slabs stored up to column 7168. -/
theorem slab_14 : Slab (kernelRun0_B.sl.H2_14 c arg1 harg1 arg5 harg5 x0 xs0) 6656 (G x0 (rows xs0)) := by
  unfold kernelRun0_B.sl.H2_14 kernelRun0_B.sl.r
  exact slab_cons 6656 _ _ _ (fun y => tile x0 (rows xs0) 6656 (prod_14 _ _) (fun a k => feat_load arg1 harg1 x0 _ a k)
    (fun b hb k => rows_load arg5 harg5 xs0 _ _ b hb k) y) ((slab_13 c arg1 harg1 arg5 harg5 x0 xs0).1)

/-- The slabs stored up to column 7680. -/
theorem slab_15 : Slab (kernelRun0_B.sl.H2_15 c arg1 harg1 arg5 harg5 x0 xs0) 7168 (G x0 (rows xs0)) := by
  unfold kernelRun0_B.sl.H2_15 kernelRun0_B.sl.r_26 kernelRun0_B.sl.r
  exact slab_cons 7168 _ _ _ (fun y => tile x0 (rows xs0) 7168 (prod_15 _ _) (fun a k => feat_load arg1 harg1 x0 _ a k)
    (fun b hb k => rows_load arg5 harg5 xs0 _ _ b hb k) y) ((slab_14 c arg1 harg1 arg5 harg5 x0 xs0).1)

/-- The slabs stored up to column 8192. -/
theorem slab_16 : Slab (kernelRun0_B.sl.H2_16 c arg1 harg1 arg5 harg5 x0 xs0) 7680 (G x0 (rows xs0)) := by
  unfold kernelRun0_B.sl.H2_16 kernelRun0_B.sl.r
  exact slab_cons 7680 _ _ _ (fun y => tile x0 (rows xs0) 7680 (prod_16 _ _) (fun a k => feat_load arg1 harg1 x0 _ a k)
    (fun b hb k => rows_load arg5 harg5 xs0 _ _ b hb k) y) ((slab_15 c arg1 harg1 arg5 harg5 x0 xs0).1)

/-! ### The search along a row -/

/-- The lanes after the blocks 0 to 2. -/
theorem run_1 (r : Fin 512) (l : Fin 128) :
    Run (lane (fun k => G x0 (rows xs0) (ix2 r k)) l) 3 (kernelRun0_B.sl.r_1 c arg1 harg1 arg3 arg5 harg5 x0 xs0 (ix2 r l)) (kernelRun0_B.sl.r_2 c arg1 harg1 arg3 arg5 harg5 x0 xs0 (ix2 r l)) := by
  unfold kernelRun0_B.sl.r_1 kernelRun0_B.sl.r_2
  exact step_1 _ r l _ _ _
    (chunk (slab_1 c arg1 harg1 arg5 harg5 x0 xs0) arg3 r l 0 0 _ (by decide))
    (chunk (slab_1 c arg1 harg1 arg5 harg5 x0 xs0) arg3 r l 1 128 _ (by decide))
    (chunk (slab_1 c arg1 harg1 arg5 harg5 x0 xs0) arg3 r l 2 256 _ (by decide))

/-- The lanes after the blocks 0 to 7. -/
theorem run_2 (r : Fin 512) (l : Fin 128) :
    Run (lane (fun k => G x0 (rows xs0) (ix2 r k)) l) 8 (kernelRun0_B.sl.r_3 c arg1 harg1 arg3 arg5 harg5 x0 xs0 (ix2 r l)) (kernelRun0_B.sl.r_4 c arg1 harg1 arg3 arg5 harg5 x0 xs0 (ix2 r l)) := by
  unfold kernelRun0_B.sl.r_3 kernelRun0_B.sl.r_4
  exact step_2 _ r l _ _ _ _ _ _ _ (run_1 c arg1 harg1 arg3 arg5 harg5 x0 xs0 r l)
    (chunk (slab_1 c arg1 harg1 arg5 harg5 x0 xs0) arg3 r l 3 384 _ (by decide))
    (chunk (slab_2 c arg1 harg1 arg5 harg5 x0 xs0) arg3 r l 4 512 _ (by decide))
    (chunk (slab_2 c arg1 harg1 arg5 harg5 x0 xs0) arg3 r l 5 640 _ (by decide))
    (chunk (slab_2 c arg1 harg1 arg5 harg5 x0 xs0) arg3 r l 6 768 _ (by decide))
    (chunk (slab_2 c arg1 harg1 arg5 harg5 x0 xs0) arg3 r l 7 896 _ (by decide))

/-- The lanes after the blocks 0 to 12. -/
theorem run_3 (r : Fin 512) (l : Fin 128) :
    Run (lane (fun k => G x0 (rows xs0) (ix2 r k)) l) 13 (kernelRun0_B.sl.r_6 c arg1 harg1 arg3 arg5 harg5 x0 xs0 (ix2 r l)) (kernelRun0_B.sl.r_7 c arg1 harg1 arg3 arg5 harg5 x0 xs0 (ix2 r l)) := by
  unfold kernelRun0_B.sl.r_6 kernelRun0_B.sl.r_7
  exact step_3 _ r l _ _ _ _ _ _ _ (run_2 c arg1 harg1 arg3 arg5 harg5 x0 xs0 r l)
    (chunk (slab_3 c arg1 harg1 arg5 harg5 x0 xs0) arg3 r l 8 1024 _ (by decide))
    (chunk (slab_3 c arg1 harg1 arg5 harg5 x0 xs0) arg3 r l 9 1152 _ (by decide))
    (chunk (slab_3 c arg1 harg1 arg5 harg5 x0 xs0) arg3 r l 10 1280 _ (by decide))
    (chunk (slab_3 c arg1 harg1 arg5 harg5 x0 xs0) arg3 r l 11 1408 _ (by decide))
    (chunk (slab_4 c arg1 harg1 arg5 harg5 x0 xs0) arg3 r l 12 1536 _ (by decide))

/-- The lanes after the blocks 0 to 18. -/
theorem run_4 (r : Fin 512) (l : Fin 128) :
    Run (lane (fun k => G x0 (rows xs0) (ix2 r k)) l) 19 (kernelRun0_B.sl.r_8 c arg1 harg1 arg3 arg5 harg5 x0 xs0 (ix2 r l)) (kernelRun0_B.sl.r_9 c arg1 harg1 arg3 arg5 harg5 x0 xs0 (ix2 r l)) := by
  unfold kernelRun0_B.sl.r_8 kernelRun0_B.sl.r_9
  exact step_4 _ r l _ _ _ _ _ _ _ _ (run_3 c arg1 harg1 arg3 arg5 harg5 x0 xs0 r l)
    (chunk (slab_4 c arg1 harg1 arg5 harg5 x0 xs0) arg3 r l 13 1664 _ (by decide))
    (chunk (slab_4 c arg1 harg1 arg5 harg5 x0 xs0) arg3 r l 14 1792 _ (by decide))
    (chunk (slab_4 c arg1 harg1 arg5 harg5 x0 xs0) arg3 r l 15 1920 _ (by decide))
    (chunk (slab_5 c arg1 harg1 arg5 harg5 x0 xs0) arg3 r l 16 2048 _ (by decide))
    (chunk (slab_5 c arg1 harg1 arg5 harg5 x0 xs0) arg3 r l 17 2176 _ (by decide))
    (chunk (slab_5 c arg1 harg1 arg5 harg5 x0 xs0) arg3 r l 18 2304 _ (by decide))

/-- The lanes after the blocks 0 to 23. -/
theorem run_5 (r : Fin 512) (l : Fin 128) :
    Run (lane (fun k => G x0 (rows xs0) (ix2 r k)) l) 24 (kernelRun0_B.sl.r_10 c arg1 harg1 arg3 arg5 harg5 x0 xs0 (ix2 r l)) (kernelRun0_B.sl.r_11 c arg1 harg1 arg3 arg5 harg5 x0 xs0 (ix2 r l)) := by
  unfold kernelRun0_B.sl.r_10 kernelRun0_B.sl.r_11
  exact step_5 _ r l _ _ _ _ _ _ _ (run_4 c arg1 harg1 arg3 arg5 harg5 x0 xs0 r l)
    (chunk (slab_5 c arg1 harg1 arg5 harg5 x0 xs0) arg3 r l 19 2432 _ (by decide))
    (chunk (slab_6 c arg1 harg1 arg5 harg5 x0 xs0) arg3 r l 20 2560 _ (by decide))
    (chunk (slab_6 c arg1 harg1 arg5 harg5 x0 xs0) arg3 r l 21 2688 _ (by decide))
    (chunk (slab_6 c arg1 harg1 arg5 harg5 x0 xs0) arg3 r l 22 2816 _ (by decide))
    (chunk (slab_6 c arg1 harg1 arg5 harg5 x0 xs0) arg3 r l 23 2944 _ (by decide))

/-- The lanes after the blocks 0 to 28. -/
theorem run_6 (r : Fin 512) (l : Fin 128) :
    Run (lane (fun k => G x0 (rows xs0) (ix2 r k)) l) 29 (kernelRun0_B.sl.r_13 c arg1 harg1 arg3 arg5 harg5 x0 xs0 (ix2 r l)) (kernelRun0_B.sl.r_14 c arg1 harg1 arg3 arg5 harg5 x0 xs0 (ix2 r l)) := by
  unfold kernelRun0_B.sl.r_13 kernelRun0_B.sl.r_14
  exact step_6 _ r l _ _ _ _ _ _ _ (run_5 c arg1 harg1 arg3 arg5 harg5 x0 xs0 r l)
    (chunk (slab_7 c arg1 harg1 arg5 harg5 x0 xs0) arg3 r l 24 3072 _ (by decide))
    (chunk (slab_7 c arg1 harg1 arg5 harg5 x0 xs0) arg3 r l 25 3200 _ (by decide))
    (chunk (slab_7 c arg1 harg1 arg5 harg5 x0 xs0) arg3 r l 26 3328 _ (by decide))
    (chunk (slab_7 c arg1 harg1 arg5 harg5 x0 xs0) arg3 r l 27 3456 _ (by decide))
    (chunk (slab_8 c arg1 harg1 arg5 harg5 x0 xs0) arg3 r l 28 3584 _ (by decide))

/-- The lanes after the blocks 0 to 34. -/
theorem run_7 (r : Fin 512) (l : Fin 128) :
    Run (lane (fun k => G x0 (rows xs0) (ix2 r k)) l) 35 (kernelRun0_B.sl.r_15 c arg1 harg1 arg3 arg5 harg5 x0 xs0 (ix2 r l)) (kernelRun0_B.sl.r_16 c arg1 harg1 arg3 arg5 harg5 x0 xs0 (ix2 r l)) := by
  unfold kernelRun0_B.sl.r_15 kernelRun0_B.sl.r_16
  exact step_7 _ r l _ _ _ _ _ _ _ _ (run_6 c arg1 harg1 arg3 arg5 harg5 x0 xs0 r l)
    (chunk (slab_8 c arg1 harg1 arg5 harg5 x0 xs0) arg3 r l 29 3712 _ (by decide))
    (chunk (slab_8 c arg1 harg1 arg5 harg5 x0 xs0) arg3 r l 30 3840 _ (by decide))
    (chunk (slab_8 c arg1 harg1 arg5 harg5 x0 xs0) arg3 r l 31 3968 _ (by decide))
    (chunk (slab_9 c arg1 harg1 arg5 harg5 x0 xs0) arg3 r l 32 4096 _ (by decide))
    (chunk (slab_9 c arg1 harg1 arg5 harg5 x0 xs0) arg3 r l 33 4224 _ (by decide))
    (chunk (slab_9 c arg1 harg1 arg5 harg5 x0 xs0) arg3 r l 34 4352 _ (by decide))

/-- The lanes after the blocks 0 to 39. -/
theorem run_8 (r : Fin 512) (l : Fin 128) :
    Run (lane (fun k => G x0 (rows xs0) (ix2 r k)) l) 40 (kernelRun0_B.sl.r_17 c arg1 harg1 arg3 arg5 harg5 x0 xs0 (ix2 r l)) (kernelRun0_B.sl.r_18 c arg1 harg1 arg3 arg5 harg5 x0 xs0 (ix2 r l)) := by
  unfold kernelRun0_B.sl.r_17 kernelRun0_B.sl.r_18
  exact step_8 _ r l _ _ _ _ _ _ _ (run_7 c arg1 harg1 arg3 arg5 harg5 x0 xs0 r l)
    (chunk (slab_9 c arg1 harg1 arg5 harg5 x0 xs0) arg3 r l 35 4480 _ (by decide))
    (chunk (slab_10 c arg1 harg1 arg5 harg5 x0 xs0) arg3 r l 36 4608 _ (by decide))
    (chunk (slab_10 c arg1 harg1 arg5 harg5 x0 xs0) arg3 r l 37 4736 _ (by decide))
    (chunk (slab_10 c arg1 harg1 arg5 harg5 x0 xs0) arg3 r l 38 4864 _ (by decide))
    (chunk (slab_10 c arg1 harg1 arg5 harg5 x0 xs0) arg3 r l 39 4992 _ (by decide))

/-- The lanes after the blocks 0 to 44. -/
theorem run_9 (r : Fin 512) (l : Fin 128) :
    Run (lane (fun k => G x0 (rows xs0) (ix2 r k)) l) 45 (kernelRun0_B.sl.r_20 c arg1 harg1 arg3 arg5 harg5 x0 xs0 (ix2 r l)) (kernelRun0_B.sl.r_21 c arg1 harg1 arg3 arg5 harg5 x0 xs0 (ix2 r l)) := by
  unfold kernelRun0_B.sl.r_20 kernelRun0_B.sl.r_21
  exact step_9 _ r l _ _ _ _ _ _ _ (run_8 c arg1 harg1 arg3 arg5 harg5 x0 xs0 r l)
    (chunk (slab_11 c arg1 harg1 arg5 harg5 x0 xs0) arg3 r l 40 5120 _ (by decide))
    (chunk (slab_11 c arg1 harg1 arg5 harg5 x0 xs0) arg3 r l 41 5248 _ (by decide))
    (chunk (slab_11 c arg1 harg1 arg5 harg5 x0 xs0) arg3 r l 42 5376 _ (by decide))
    (chunk (slab_11 c arg1 harg1 arg5 harg5 x0 xs0) arg3 r l 43 5504 _ (by decide))
    (chunk (slab_12 c arg1 harg1 arg5 harg5 x0 xs0) arg3 r l 44 5632 _ (by decide))

/-- The lanes after the blocks 0 to 50. -/
theorem run_10 (r : Fin 512) (l : Fin 128) :
    Run (lane (fun k => G x0 (rows xs0) (ix2 r k)) l) 51 (kernelRun0_B.sl.r_22 c arg1 harg1 arg3 arg5 harg5 x0 xs0 (ix2 r l)) (kernelRun0_B.sl.r_23 c arg1 harg1 arg3 arg5 harg5 x0 xs0 (ix2 r l)) := by
  unfold kernelRun0_B.sl.r_22 kernelRun0_B.sl.r_23
  exact step_10 _ r l _ _ _ _ _ _ _ _ (run_9 c arg1 harg1 arg3 arg5 harg5 x0 xs0 r l)
    (chunk (slab_12 c arg1 harg1 arg5 harg5 x0 xs0) arg3 r l 45 5760 _ (by decide))
    (chunk (slab_12 c arg1 harg1 arg5 harg5 x0 xs0) arg3 r l 46 5888 _ (by decide))
    (chunk (slab_12 c arg1 harg1 arg5 harg5 x0 xs0) arg3 r l 47 6016 _ (by decide))
    (chunk (slab_13 c arg1 harg1 arg5 harg5 x0 xs0) arg3 r l 48 6144 _ (by decide))
    (chunk (slab_13 c arg1 harg1 arg5 harg5 x0 xs0) arg3 r l 49 6272 _ (by decide))
    (chunk (slab_13 c arg1 harg1 arg5 harg5 x0 xs0) arg3 r l 50 6400 _ (by decide))

/-- The lanes after the blocks 0 to 55. -/
theorem run_11 (r : Fin 512) (l : Fin 128) :
    Run (lane (fun k => G x0 (rows xs0) (ix2 r k)) l) 56 (kernelRun0_B.sl.r_24 c arg1 harg1 arg3 arg5 harg5 x0 xs0 (ix2 r l)) (kernelRun0_B.sl.r_25 c arg1 harg1 arg3 arg5 harg5 x0 xs0 (ix2 r l)) := by
  unfold kernelRun0_B.sl.r_24 kernelRun0_B.sl.r_25
  exact step_11 _ r l _ _ _ _ _ _ _ (run_10 c arg1 harg1 arg3 arg5 harg5 x0 xs0 r l)
    (chunk (slab_13 c arg1 harg1 arg5 harg5 x0 xs0) arg3 r l 51 6528 _ (by decide))
    (chunk (slab_14 c arg1 harg1 arg5 harg5 x0 xs0) arg3 r l 52 6656 _ (by decide))
    (chunk (slab_14 c arg1 harg1 arg5 harg5 x0 xs0) arg3 r l 53 6784 _ (by decide))
    (chunk (slab_14 c arg1 harg1 arg5 harg5 x0 xs0) arg3 r l 54 6912 _ (by decide))
    (chunk (slab_14 c arg1 harg1 arg5 harg5 x0 xs0) arg3 r l 55 7040 _ (by decide))

/-- The lanes after the blocks 0 to 60. -/
theorem run_12 (r : Fin 512) (l : Fin 128) :
    Run (lane (fun k => G x0 (rows xs0) (ix2 r k)) l) 61 (kernelRun0_B.sl.r_27 c arg1 harg1 arg3 arg5 harg5 x0 xs0 (ix2 r l)) (kernelRun0_B.sl.r_28 c arg1 harg1 arg3 arg5 harg5 x0 xs0 (ix2 r l)) := by
  unfold kernelRun0_B.sl.r_27 kernelRun0_B.sl.r_28
  exact step_12 _ r l _ _ _ _ _ _ _ (run_11 c arg1 harg1 arg3 arg5 harg5 x0 xs0 r l)
    (chunk (slab_15 c arg1 harg1 arg5 harg5 x0 xs0) arg3 r l 56 7168 _ (by decide))
    (chunk (slab_15 c arg1 harg1 arg5 harg5 x0 xs0) arg3 r l 57 7296 _ (by decide))
    (chunk (slab_15 c arg1 harg1 arg5 harg5 x0 xs0) arg3 r l 58 7424 _ (by decide))
    (chunk (slab_15 c arg1 harg1 arg5 harg5 x0 xs0) arg3 r l 59 7552 _ (by decide))
    (chunk (slab_16 c arg1 harg1 arg5 harg5 x0 xs0) arg3 r l 60 7680 _ (by decide))

/-- The row's index: the first at which the row's greatest similarity stands. -/
theorem index (r : Fin 512) (K : Fin 8192) (hK : IsFirstMax (fun k => G x0 (rows xs0) (ix2 r k)) K) :
    k0_pay1 (kernelRun0_B.sl.r_27 c arg1 harg1 arg3 arg5 harg5 x0 xs0) (kernelRun0_B.sl.r_28 c arg1 harg1 arg3 arg5 harg5 x0 xs0) (kernelRun0_B.sl.v428 c arg1 harg1 arg3 arg5 harg5 x0 xs0)
      (kernelRun0_B.sl.v434 c arg1 harg1 arg3 arg5 harg5 x0 xs0) (kernelRun0_B.sl.v440 c arg1 harg1 arg3 arg5 harg5 x0 xs0) (ix2 r 0) = BitVec.ofNat 32 K :=
  last_step _ K hK r _ _ _ _ _ (fun l => run_12 c arg1 harg1 arg3 arg5 harg5 x0 xs0 r l)
    (fun l => chunk (slab_16 c arg1 harg1 arg5 harg5 x0 xs0) arg3 r l 61 7808 _ (by decide))
    (fun l => chunk (slab_16 c arg1 harg1 arg5 harg5 x0 xs0) arg3 r l 62 7936 _ (by decide))
    (fun l => chunk (slab_16 c arg1 harg1 arg5 harg5 x0 xs0) arg3 r l 63 8064 _ (by decide))

end Cert.BlockB
-- ==== Proof.KernelRun.lean ====
/-
  The kernel's run, read: what a point leaves in its blocks, what the two result arrays hold once every block is
  written back, and the ids as the program returns them.
-/
module

public import proofs.«01_k».proof.Proof.BlockA
public import proofs.«01_k».proof.Proof.BlockB
public import Idealize.ShloMosaic.Lib.Pipeline.Value
public import Idealize.ShloMosaic.Lib.Pointwise

@[expose] public section

set_option maxRecDepth 16384

noncomputable section

namespace Cert.KernelRun

open Cert.KernelIdeal Cert.KernelIdeal.Gen Cert.Fold Cert.Block
open Idealize.ShloMosaic Idealize.ShloMosaic.TcCoe Idealize.SL.Sem
open Idealize.ShloMosaic.Pipeline (Dat)

/-! ### What the body leaves at one point -/

section Point

variable (c : Dev nD) (i : grid0.Coords) (arg1 : Memref sig .tc .vmem S512x256 .f32) (harg1 : arg1.IsWhole)
  (arg2 : Memref sig .tc .vmem S8192x256 .f32) (harg2 : arg2.IsWhole) (arg3 : Memref sig .tc .vmem S512x8192 .f32) (harg3 : arg3.IsWhole)
  (arg4 : Memref sig .tc .vmem S512x1 .i32) (harg4 : arg4.IsWhole) (arg5 : Memref sig .tc .vmem S8192x256 .f32) (harg5 : arg5.IsWhole)
  (x0 : Vec Ideal S512x256 .f32) (x1 xs0 : Vec Ideal S8192x256 .f32)

/-- Offsets of nought. -/
theorem zeros : (![0, 0] : Fin 2 → ℕ) = fun _ => 0 := by
  funext a
  fin_cases a <;> rfl

/-- The first point leaves the similarities of its rows. -/
theorem sims_A (hc : cond0_0 i) :
    out0_A_2 c i arg1 harg1 arg2 harg2 arg3 harg3 arg4 harg4 arg5 harg5 hc x0 x1 = G x0 (hat x1) := by
  unfold out0_A_2
  rw [View.read_writes_junk_eq_canon]
  funext y
  exact View.canon_eq_of_allAt _ y _ (cover0_A_2 c i arg1 harg1 arg2 harg2 arg3 harg3 arg4 harg4 arg5 harg5 hc x0 x1 y)
    ((BlockA.slab_16 c arg1 harg1 arg2 harg2 arg5 x0 x1).1 y)

/-- Every other point leaves the similarities of its rows to the rows it finds. -/
theorem sims_B (hc : ¬cond0_0 i) :
    out0_B_2 c i arg1 harg1 arg2 harg2 arg3 harg3 arg4 harg4 arg5 harg5 hc x0 x1 xs0 = G x0 (rows xs0) := by
  unfold out0_B_2
  rw [View.read_writes_junk_eq_canon]
  funext y
  exact View.canon_eq_of_allAt _ y _ (cover0_B_2 c i arg1 harg1 arg2 harg2 arg3 harg3 arg4 harg4 arg5 harg5 hc x0 x1 xs0 y)
    ((BlockB.slab_16 c arg1 harg1 arg5 harg5 x0 xs0).1 y)

/-- The first point leaves the place of the first largest similarity of each of its rows. -/
theorem ids_A (hc : cond0_0 i) (r : Fin 512) (K : Fin 8192) (hK : IsFirstMax (fun k => G x0 (hat x1) (ix2 r k)) K) :
    out0_A_3 c i arg1 harg1 arg2 harg2 arg3 harg3 arg4 harg4 arg5 harg5 hc x0 x1 (ix2 r 0) = BitVec.ofNat 32 K := by
  unfold out0_A_3
  rw [View.read_writes_junk_eq_canon]
  exact (congrFun (View.canon_unit_zero zeros _ _) _).trans (BlockA.index c arg1 harg1 arg2 harg2 arg3 arg5 x0 x1 r K hK)

/-- So does every other point. -/
theorem ids_B (hc : ¬cond0_0 i) (r : Fin 512) (K : Fin 8192) (hK : IsFirstMax (fun k => G x0 (rows xs0) (ix2 r k)) K) :
    out0_B_3 c i arg1 harg1 arg2 harg2 arg3 harg3 arg4 harg4 arg5 harg5 hc x0 x1 xs0 (ix2 r 0) = BitVec.ofNat 32 K := by
  unfold out0_B_3
  rw [View.read_writes_junk_eq_canon]
  exact (congrFun (View.canon_unit_zero zeros _ _) _).trans (BlockB.index c arg1 harg1 arg3 arg5 harg5 x0 xs0 r K hK)

/-- The first point leaves the prototypes of length one for the others to find. -/
theorem kept_A (hc : cond0_0 i) :
    rows (sout0_A_0 c i arg1 harg1 arg2 harg2 arg3 harg3 arg4 harg4 arg5 harg5 hc x0 x1) = hat x1 := by
  funext b k
  unfold rows sout0_A_0
  rw [View.read_writes_junk_eq_canon]
  have e : (kernelRun0_A c i arg1 harg1 arg2 harg2 arg3 harg3 arg4 harg4 arg5 harg5 hc x0 x1).2.2.1
      = kernelRun0_A.sl.HS0_1 c arg2 harg2 x1 := rfl
  rw [e]
  unfold kernelRun0_A.sl.HS0_1
  exact proto_canon arg2 harg2 x1 _ _ b k

end Point

/-! ### The blocks read -/

variable (m : (ℓ : Loc nD τ sig) → Buf (Elt Ideal) ℓ) (ρ : Dev nD → PrngReg)

/-- The features, on device `c`. -/
abbrev feats (c : Dev nD) : Vec Ideal S16384x256 .f32 := m ((c : Thread nD τ).loc main_arg0)

/-- The prototypes, on device `c`. -/
abbrev protos (c : Dev nD) : Vec Ideal S8192x256 .f32 := m ((c : Thread nD τ).loc main_arg1)

/-- Row `a` of block `t` of 512 rows. -/
def row (t : Fin cfg0.N) (a : Fin 512) : Fin 16384 :=
  ⟨512 * t.val + a.val, by have := t.isLt; have : cfg0.N = 32 := N_0; have := a.isLt; omega⟩

/-- The one coordinate of point `t` is `t`. -/
theorem coord (t : Fin cfg0.N) : (grid0.coords t 0).val = t.val := by
  rw [Pipeline.Grid.coords_val t 0 (S := 1) (B := 32) (by decide) rfl]
  have := t.isLt; have : cfg0.N = 32 := N_0
  show t.val / 1 % 32 = t.val
  omega

/-- The block of features a point reads is its 512 rows. -/
theorem feat_block (c : Dev nD) (t : Fin cfg0.N) (a : Fin 512) (k : Fin 256) :
    iblk m c 0 t (ix2 a k) = feats m c (ix2 (row t a) k) := by
  show m ((c : Thread nD τ).loc main_arg0) ((win0_0.rect t).emb (ix2 a k)) = _
  congr 1
  funext i
  apply Fin.ext
  fin_cases i
  · show (BitVec.ofNat 32 (grid0.coords t 0).val).toNat * 512 + 1 * a.val = 512 * t.val + a.val
    rw [coord, BitVec.toNat_ofNat]
    have := t.isLt; have : cfg0.N = 32 := N_0
    omega
  · show 0 * 256 + 1 * k.val = k.val
    omega

/-- Every point reads all the prototypes. -/
theorem proto_block (c : Dev nD) (t : Fin cfg0.N) : iblk m c 1 t = protos m c := by
  funext y
  show m ((c : Thread nD τ).loc main_arg1) ((win0_1.rect t).emb y) = _
  congr 1
  funext i
  apply Fin.ext
  fin_cases i
  · show 0 * 8192 + 1 * (y 0).val = (y 0).val
    omega
  · show 0 * 256 + 1 * (y 1).val = (y 1).val
    omega

/-- A row made of length one depends on the row only. -/
theorem hat_congr {a b : ℕ} (v : (⟨2, ![a, 256]⟩ : Shape).Idx → EReal) (w : (⟨2, ![b, 256]⟩ : Shape).Idx → EReal)
    (r : Fin a) (s : Fin b) (h : ∀ k, v (ix2 r k) = w (ix2 s k)) (k : Fin 256) : hat v r k = hat w s k := by
  unfold hat
  simp only [h]

/-! ### What the arrays hold in the end -/

/-- The similarities on device `c`. -/
def sim (c : Dev nD) : Vec Ideal S16384x8192 .f32 := fun y =>
  ∑ k : Fin 256, hat (feats m c) (y 0) k * hat (protos m c) (y 1) k

/-- The place of the first largest similarity of row `r`. -/
def best (c : Dev nD) (r : Fin 16384) : Fin 8192 := (exists_firstMax fun k : Fin 8192 => sim m c (ix2 r k)).choose

/-- `best` is the place of a first largest entry of its row. -/
theorem best_spec (c : Dev nD) (r : Fin 16384) : IsFirstMax (fun k : Fin 8192 => sim m c (ix2 r k)) (best m c r) :=
  (exists_firstMax fun k : Fin 8192 => sim m c (ix2 r k)).choose_spec

/-- The ids on device `c`, as the one column the kernel writes. -/
def ids (c : Dev nD) : Vec Ideal S16384x1 .i32 := fun y => BitVec.ofNat 32 (best m c (y 0)).val

/-- The similarities of block `t` are those of its rows. -/
theorem G_block (c : Dev nD) (t : Fin cfg0.N) (a : Fin 512) (b : Fin 8192) :
    G (iblk m c 0 t) (hat (protos m c)) (ix2 a b) = sim m c (ix2 (row t a) b) :=
  Finset.sum_congr rfl fun k _ =>
    congrArg (· * hat (protos m c) b k) (hat_congr _ _ a (row t a) (fun k => feat_block m c t a k) k)

/-! ### What each point leaves -/

/-- After every point the prototypes of length one are kept. -/
theorem kept (c : Dev nD) : ∀ (n : ℕ) (hn : n < cfg0.N), rows (outsAt0 m c n hn).2.2 = hat (protos m c) := by
  intro n
  induction n with
  | zero =>
    intro hn
    have e := outsAt0_A m c ⟨0, hn⟩ (Nat.zero_mod _)
    rw [show outsAt0 m c 0 hn = _ from e]
    dsimp only
    rw [kept_A, proto_block]
  | succ n ih =>
    intro hn
    have hN : cfg0.N = 32 := N_0
    have e := outsAt0_B m c ⟨n + 1, hn⟩ (by show ¬(n + 1) % 32 = 0; omega)
    rw [show outsAt0 m c (n + 1) hn = _ from e]
    exact ih _

/-- Point `t` leaves the similarities of its rows. -/
theorem sims_at (c : Dev nD) (t : Fin cfg0.N) : (outsAt0 m c t.val t.isLt).1 = G (iblk m c 0 t) (hat (protos m c)) := by
  by_cases h : t.val % 32 = 0
  · rw [outsAt0_A m c t h]
    dsimp only
    rw [sims_A, proto_block]
  · rw [outsAt0_B m c t h]
    dsimp only
    rw [sims_B, kept]

/-- Point `t` leaves the ids of its rows. -/
theorem ids_at (c : Dev nD) (t : Fin cfg0.N) (a : Fin 512) :
    (outsAt0 m c t.val t.isLt).2.1 (ix2 a 0) = BitVec.ofNat 32 (best m c (row t a)).val := by
  have hb : IsFirstMax (fun k => G (iblk m c 0 t) (hat (protos m c)) (ix2 a k)) (best m c (row t a)) := by
    simp only [G_block]
    exact best_spec m c (row t a)
  by_cases h : t.val % 32 = 0
  · rw [outsAt0_A m c t h]
    dsimp only
    exact ids_A _ _ _ _ _ _ _ _ _ _ _ _ _ _ _ a _ (by rw [proto_block]; exact hb)
  · rw [outsAt0_B m c t h]
    dsimp only
    exact ids_B _ _ _ _ _ _ _ _ _ _ _ _ _ _ _ _ a _ (by rw [kept]; exact hb)

/-! ### The arrays -/

/-- The offset of block `t` along the rows. -/
theorem offset (t : Fin cfg0.N) : (BitVec.ofNat 32 (grid0.coords t 0).val).toNat = t.val := by
  rw [coord, BitVec.toNat_ofNat]
  have := t.isLt; have : cfg0.N = 32 := N_0
  omega

/-- What point `t` writes back of the similarities is its block of them. -/
theorem sim_flushed (c : Dev nD) (t : Fin cfg0.N) :
    (dats m 0 c).flushed 2 t = (win0_2.blk t).view.read (Elt Ideal) (sim m c) := by
  show (cfg0.win 2).cut (grid0.coords t) ((dats m 0 c).after 2 t) = _
  rw [after0_2, sims_at]
  funext y
  obtain ⟨a, ha⟩ : ∃ a : Fin 512, a.val = (y 0).val := ⟨⟨(y 0).val, (y 0).isLt⟩, rfl⟩
  obtain ⟨b, hb⟩ : ∃ b : Fin 8192, b.val = (y 1).val := ⟨⟨(y 1).val, (y 1).isLt⟩, rfl⟩
  have e1 : win0_2.xinj (grid0.coords t) y = ix2 a b := by
    funext i
    apply Fin.ext
    fin_cases i
    · exact ha.symm
    · exact hb.symm
  have e2 : (win0_2.rect t).emb y = ix2 (row t a) b := by
    funext i
    apply Fin.ext
    fin_cases i
    · show (BitVec.ofNat 32 (grid0.coords t 0).val).toNat * 512 + 1 * (y 0).val = 512 * t.val + a.val
      rw [offset]
      omega
    · show 0 * 8192 + 1 * (y 1).val = b.val
      omega
  show G (iblk m c 0 t) (hat (protos m c)) (win0_2.xinj (grid0.coords t) y) = sim m c ((win0_2.rect t).emb y)
  rw [e1, e2, G_block]

/-- What point `t` writes back of the ids is its block of them. -/
theorem ids_flushed (c : Dev nD) (t : Fin cfg0.N) :
    (dats m 0 c).flushed 3 t = (win0_3.blk t).view.read (Elt Ideal) (ids m c) := by
  show (cfg0.win 3).cut (grid0.coords t) ((dats m 0 c).after 3 t) = _
  rw [after0_3]
  funext y
  obtain ⟨a, ha⟩ : ∃ a : Fin 512, a.val = (y 0).val := ⟨⟨(y 0).val, (y 0).isLt⟩, rfl⟩
  have h1 : (y 1).val = 0 := Nat.lt_one_iff.mp (y 1).isLt
  have e1 : win0_3.xinj (grid0.coords t) y = ix2 a (0 : Fin 1) := by
    funext i
    apply Fin.ext
    fin_cases i
    · exact ha.symm
    · exact h1
  have e2 : (win0_3.rect t).emb y = ix2 (row t a) (0 : Fin 1) := by
    funext i
    apply Fin.ext
    fin_cases i
    · show (BitVec.ofNat 32 (grid0.coords t 0).val).toNat * 512 + 1 * (y 0).val = 512 * t.val + a.val
      rw [offset]
      omega
    · show 0 * 1 + 1 * (y 1).val = 0
      omega
  show (outsAt0 m c t.val t.isLt).2.1 (win0_3.xinj (grid0.coords t) y) = ids m c ((win0_3.rect t).emb y)
  rw [e1, e2, ids_at]
  rfl

/-- Block `t` of the similarities holds the rows from `512 t`. -/
theorem mem_sim (t : Fin cfg0.N) (i : S16384x8192.Idx) :
    i ∈ ((cfg0.win 2).blk t).view.set ↔ t.val * 512 ≤ (i 0 : ℕ) ∧ (i 0 : ℕ) < t.val * 512 + 512 := by
  show i ∈ ((View.whole main_v0_0).slice (win0_2.rect t)).set ↔ _
  rw [View.set_slice_whole, Rect.mem_set_unit]
  have h1 : (i 1 : ℕ) < 8192 := (i 1).isLt
  have ho := offset t
  refine ⟨fun h => ?_, fun h a => ?_⟩
  · have : (BitVec.ofNat 32 (grid0.coords t 0).val).toNat * 512 ≤ (i 0 : ℕ)
        ∧ (i 0 : ℕ) < (BitVec.ofNat 32 (grid0.coords t 0).val).toNat * 512 + 512 := h 0
    rw [ho] at this
    exact this
  · fin_cases a
    · show (BitVec.ofNat 32 (grid0.coords t 0).val).toNat * 512 ≤ (i 0 : ℕ)
        ∧ (i 0 : ℕ) < (BitVec.ofNat 32 (grid0.coords t 0).val).toNat * 512 + 512
      rw [ho]
      exact h
    · have e : win0_2.index t 1 * win0_2.size 1 = 0 := Nat.zero_mul _
      have x : win0_2.xsize (grid0.coords t) 1 = S512x8192.size 1 := rfl
      show win0_2.index t 1 * win0_2.size 1 ≤ (i 1 : ℕ)
        ∧ (i 1 : ℕ) < win0_2.index t 1 * win0_2.size 1 + win0_2.xsize (grid0.coords t) 1
      rw [e, x, Nat.zero_add]
      exact ⟨Nat.zero_le _, h1⟩

/-- Block `t` of the ids holds the rows from `512 t`. -/
theorem mem_ids (t : Fin cfg0.N) (i : S16384x1.Idx) :
    i ∈ ((cfg0.win 3).blk t).view.set ↔ t.val * 512 ≤ (i 0 : ℕ) ∧ (i 0 : ℕ) < t.val * 512 + 512 := by
  show i ∈ ((View.whole main_v0_1).slice (win0_3.rect t)).set ↔ _
  rw [View.set_slice_whole, Rect.mem_set_unit]
  have h1 : (i 1 : ℕ) < 1 := (i 1).isLt
  have ho := offset t
  refine ⟨fun h => ?_, fun h a => ?_⟩
  · have : (BitVec.ofNat 32 (grid0.coords t 0).val).toNat * 512 ≤ (i 0 : ℕ)
        ∧ (i 0 : ℕ) < (BitVec.ofNat 32 (grid0.coords t 0).val).toNat * 512 + 512 := h 0
    rw [ho] at this
    exact this
  · fin_cases a
    · show (BitVec.ofNat 32 (grid0.coords t 0).val).toNat * 512 ≤ (i 0 : ℕ)
        ∧ (i 0 : ℕ) < (BitVec.ofNat 32 (grid0.coords t 0).val).toNat * 512 + 512
      rw [ho]
      exact h
    · show 0 * 1 ≤ (i 1 : ℕ) ∧ (i 1 : ℕ) < 0 * 1 + 1
      omega

/-- Some block holds each row. -/
theorem point_of (r : ℕ) (hr : r < 16384) : ∃ t : Fin cfg0.N, t.val * 512 ≤ r ∧ r < t.val * 512 + 512 := by
  have hN : cfg0.N = 32 := N_0
  exact ⟨⟨r / 512, by omega⟩, by dsimp only; omega, by dsimp only; omega⟩

/-- The array of similarities in the end. -/
theorem sim_final (c : Dev nD) : (dats m 0 c).arrAt 2 cfg0.N = sim m c :=
  (dats m 0 c).arrAt_eq_of_cover 2 (sim m c) (fun t _ => sim_flushed m c t) fun i =>
    let ⟨t, ht⟩ := point_of (i 0).val (i 0).isLt
    ⟨t, flush0_2 t, (mem_sim t i).mpr ht⟩

/-- The column of ids in the end. -/
theorem ids_final (c : Dev nD) : (dats m 0 c).arrAt 3 cfg0.N = ids m c :=
  (dats m 0 c).arrAt_eq_of_cover 3 (ids m c) (fun t _ => ids_flushed m c t) fun i =>
    let ⟨t, ht⟩ := point_of (i 0).val (i 0).isLt
    ⟨t, flush0_3 t, (mem_ids t i).mpr ht⟩

/-- The ids as the program returns them: the column, read as a row. -/
def idRow (c : Dev nD) : Vec Ideal S16384 .i32 := fun y => BitVec.ofNat 32 (best m c (y 0)).val

/-- The reshape leaves the ids in the returned buffer. -/
theorem tail_ids (c : Dev nD) :
    Pipeline.afterTail₀ cfgs (dats m) 0 (V0 m) [hostOps1] c main_v1 = idRow m c := by
  unfold Pipeline.afterTail₀
  simp only [List.flatten_cons, List.flatten_nil, List.append_nil, StableHlo.after_cons, StableHlo.after_nil]
  rw [StableHlo.reshape_result]
  have e : Pipeline.withArrays (cfgs 0).spec c (V0 m c) (fun w => (dats m 0 c).arrAt w (cfgs 0).N) (Proc.devRef .tc main_v0_1)
      = ids m c := (Pipeline.withArrays_arr spec0 winFacts0.arr_inj c (V0 m c) _ 3).trans (ids_final m c)
  rw [e]
  funext y
  obtain ⟨r, rfl⟩ : ∃ r : Fin 16384, y = ix1 r := ⟨y 0, by funext i; fin_cases i; rfl⟩
  show shapeCast S16384 (ids m c) shapeCasts_S16384x1_S16384 (ix1 r) = idRow m c (ix1 r)
  pointwise [ids, idRow]

/-- The run: both results and both arguments at the end. -/
theorem run : θ_run defs (onTc (τ := τ) (main (F := Ideal))) ⟨m, fun _ => 0, ρ⟩ fun r => ∀ c : Dev nD,
      r.2.mem ((c : Thread nD τ).loc main_v1) = idRow m c
      ∧ r.2.mem ((c : Thread nD τ).loc main_v0_0) = sim m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_ids m c), ((h c).1 2).trans (sim_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelRun

end
-- ==== Proof.lean ====
/-
  The proof of the certificate's claims, assembled from the generated frames and the modules under Proof/.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.RefValue
public import proofs.«01_k».proof.Proof.KernelRun
public import Idealize.ShloMosaic.Adequacy
public import Idealize.ShloMosaic.Init

@[expose] public section

noncomputable section

namespace Cert.Proof

open Idealize.ShloMosaic Idealize.SL.Sem

/-- The kernel runs, leaves its arguments as they were and every semaphore at zero. -/
theorem frame_kernel : Cert.quiescent_Kernel := fun m ρ _ => Cert.Kernel.Gen.frame m ρ

/-- The same of the kernel's idealization. -/
theorem frame_ideal : Cert.quiescent_KernelIdeal := fun m ρ _ => Cert.KernelIdeal.Gen.frame m ρ

/-- The same of the reference, which declares no semaphore at all. -/
theorem frame_reference : Cert.quiescent_ReferenceIdeal := fun m ρ _ =>
  (θ_run Cert.ReferenceIdeal.defs _ _).mono
    (fun r h => ⟨fun c => (h c).2.2, sem_eq_zero_of_no_sems (by decide) r.2⟩) (Cert.RefRun.run (F := Ideal) m ρ)

/-- The table the kernel leaves is the reference's table of the same features and prototypes. -/
theorem sims_agree (m : (ℓ : Loc Cert.KernelIdeal.nD Cert.KernelIdeal.τ Cert.KernelIdeal.sig) → Buf (Elt Ideal) ℓ)
    (c : Dev Cert.KernelIdeal.nD) :
    Cert.RefRun.simTable (F := Ideal) (Cert.KernelRun.feats m c) (Cert.KernelRun.protos m c) = Cert.KernelRun.sim m c := by
  funext y
  obtain ⟨r, k, rfl⟩ : ∃ (r : Fin 16384) (k : Fin 8192), y = ix2 r k :=
    ⟨y 0, y 1, by funext i; fin_cases i <;> rfl⟩
  exact Cert.RefValue.simTable_apply _ _ r k

/-- The ids the kernel leaves are the places the reference finds along the rows of that table. -/
theorem ids_agree (m : (ℓ : Loc Cert.KernelIdeal.nD Cert.KernelIdeal.τ Cert.KernelIdeal.sig) → Buf (Elt Ideal) ℓ)
    (c : Dev Cert.KernelIdeal.nD) :
    Cert.RefRun.rowArgmax (F := Ideal) (Cert.KernelRun.sim m c) = Cert.KernelRun.idRow m c := by
  funext y
  obtain ⟨r, rfl⟩ : ∃ r : Fin 16384, y = ix1 r := ⟨y 0, by funext i; fin_cases i; rfl⟩
  exact Cert.RefValue.rowArgmax_apply _ r _ (Cert.KernelRun.best_spec m c r)

/-- The kernel and the reference, on the extended reals and from the same arguments, end with the same ids and the same
similarities, every argument as it was. -/
theorem algebraic : Cert.algebraic_KernelIdeal_ReferenceIdeal := by
  intro m ρ m' ρ' _ hagree
  refine ⟨fun c => Cert.KernelRun.idRow m c, fun c => Cert.KernelRun.sim m c, Cert.KernelRun.run m ρ, ?_⟩
  refine (θ_run Cert.ReferenceIdeal.defs _ _).mono (fun r h c => ?_) (Cert.RefRun.run (F := Ideal) m' ρ')
  have hc := h c
  rw [(hagree c).1, (hagree c).2] at hc ⊢
  exact ⟨hc.1.trans ((congrArg _ (sims_agree m c)).trans (ids_agree m c)), hc.2.1.trans (sims_agree m c), hc.2.2⟩

/-- Everything the certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
